-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_inputs_finite [hPre_encoder_inputs_finite : Cert.Pre_encoder_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_inputs_finite [hPre_encoder_inputs_finite : Cert.Pre_encoder_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_encoder_inputs_finite [hKernelIdeal : Cert.KernelIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_encoder_inputs_finite [hReferenceIdeal : Cert.ReferenceIdeal.Facts] [hPre_encoder_inputs_finite : Cert.Pre_encoder_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_encoder_inputs_finite [hKernelIdeal : Cert.KernelIdeal.Facts] [hReferenceIdeal : Cert.ReferenceIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v245)) (v1 : (c : Dev Cert.KernelIdeal.nD) → Buf (Elt Ideal) ((c.tc : Thread Cert.KernelIdeal.nD Cert.KernelIdeal.τ).loc Cert.KernelIdeal.main_v118)) (v2 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_v119) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v438) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v234) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_encoder_inputs_finite : Cert.Pre_encoder_inputs_finite.Facts),
    quiescent_Kernel (hKernel := hKernel)
    ∧ quiescent_KernelIdeal (hKernelIdeal := hKernelIdeal)
    ∧ quiescent_KernelIdeal_pre_encoder_inputs_finite (hKernelIdeal := hKernelIdeal) (hPre_encoder_inputs_finite := hPre_encoder_inputs_finite)
    ∧ quiescent_ReferenceIdeal (hReferenceIdeal := hReferenceIdeal)
    ∧ quiescent_ReferenceIdeal_pre_encoder_inputs_finite (hReferenceIdeal := hReferenceIdeal) (hPre_encoder_inputs_finite := hPre_encoder_inputs_finite)
    ∧ preserves_Kernel_KernelIdeal
    ∧ algebraic_KernelIdeal_ReferenceIdeal_pre_encoder_inputs_finite (hKernelIdeal := hKernelIdeal) (hReferenceIdeal := hReferenceIdeal) (hPre_encoder_inputs_finite := hPre_encoder_inputs_finite)
-- ==== Pre_encoder_inputs_finite.lean ====
abbrev S8x1x512x512 : Shape := ⟨4, ![8, 1, 512, 512]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S1024x64 : Shape := ⟨2, ![1024, 64]⟩
abbrev S1 : Shape := ⟨1, ![1]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  bcast_S_S32x1x4x4 : S_.BroadcastsInDim S32x1x4x4 (![] : Fin 0 → Fin S32x1x4x4.rank)
  reducesTo_S32x1x4x4_S_d0_1_2_3 : S32x1x4x4.ReducesTo [0, 1, 2, 3] S_
  bcast_S_S32 : S_.BroadcastsInDim S32 (![] : Fin 0 → Fin S32.rank)
  reducesTo_S32_S_d0 : S32.ReducesTo [0] S_
  bcast_S_S64x32x4x4 : S_.BroadcastsInDim S64x32x4x4 (![] : Fin 0 → Fin S64x32x4x4.rank)
  reducesTo_S64x32x4x4_S_d0_1_2_3 : S64x32x4x4.ReducesTo [0, 1, 2, 3] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S64 .f32) (main_arg5 : FVec F S1024x64 .f32) (main_v13 : IVec S_ 1) (main_v16 : IVec S64x32x4x4 1) : IVec S_ 1 :=
  let main_c_5 : IVec S_ 1 := constantI S_ 1 1#1
  let main_v17 : IVec S_ 1 := (fun x v => Host.reduce IntOp.andi x v reducesTo_S64x32x4x4_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  main_v28

def fn {F : FTy → Type} [FloatOps F] (main_arg0 : FVec F S8x1x512x512 .f32) (main_arg1 : FVec F S32x1x4x4 .f32) (main_arg2 : FVec F S32 .f32) (main_arg3 : FVec F S64x32x4x4 .f32) (main_arg4 : FVec F S64 .f32) (main_arg5 : FVec F S1024x64 .f32) (main_arg6 : FVec F S64x32x4x4 .f32) (main_arg7 : FVec F S32 .f32) (main_arg8 : FVec F S32x1x4x4 .f32) (main_arg9 : FVec F S1 .f32) : IVec S_ 1 :=
  let main_v0 : FVec F S8x1x512x512 .f32 := Host.absf main_arg0
  let main_cst : FVec F S_ .f32 := constant S_ .f32 0x7F800000#32
  let main_v1 : FVec F S8x1x512x512 .f32 := broadcastInDim S8x1x512x512 ![] bcast_S_S8x1x512x512 main_cst
  let main_v2 : IVec S8x1x512x512 1 := cmpf .olt main_v0 main_v1
  let main_c : IVec S_ 1 := constantI S_ 1 1#1
  let main_v3 : IVec S_ 1 := (fun x v => Host.reduce IntOp.andi x v reducesTo_S8x1x512x512_S_d0_1_2_3 h_S_) main_v2 main_c
  let main_v4 : FVec F S32x1x4x4 .f32 := Host.absf main_arg1
  let main_cst_0 : FVec F S_ .f32 := constant S_ .f32 0x7F800000#32
  let main_v5 : FVec F S32x1x4x4 .f32 := broadcastInDim S32x1x4x4 ![] bcast_S_S32x1x4x4 main_cst_0
  let main_v6 : IVec S32x1x4x4 1 := cmpf .olt main_v4 main_v5
  let main_c_1 : IVec S_ 1 := constantI S_ 1 1#1
  let main_v7 : IVec S_ 1 := (fun x v => Host.reduce IntOp.andi x v reducesTo_S32x1x4x4_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32x4x4 .f32 := Host.absf main_arg3
  let main_cst_4 : FVec F S_ .f32 := constant S_ .f32 0x7F800000#32
  let main_v15 : FVec F S64x32x4x4 .f32 := broadcastInDim S64x32x4x4 ![] bcast_S_S64x32x4x4 main_cst_4
  let main_v16 : IVec S64x32x4x4 1 := cmpf .olt main_v14 main_v15
  fn_part1 (F := F) main_arg4 main_arg5 main_v13 main_v16
-- ==== Kernel.lean ====
abbrev S8x1x512x512 : Shape := ⟨4, ![8, 1, 512, 512]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S1024x64 : Shape := ⟨2, ![1024, 64]⟩
abbrev S1 : Shape := ⟨1, ![1]⟩
abbrev S8x512x512 : Shape := ⟨3, ![8, 512, 512]⟩
abbrev S_ : Shape := ⟨0, ![]⟩
abbrev S8x514x514 : Shape := ⟨3, ![8, 514, 514]⟩
abbrev S8x256x256 : Shape := ⟨3, ![8, 256, 256]⟩
abbrev S8x65536 : Shape := ⟨2, ![8, 65536]⟩
abbrev S8x1x65536 : Shape := ⟨3, ![8, 1, 65536]⟩
abbrev S8x16x65536 : Shape := ⟨3, ![8, 16, 65536]⟩
abbrev S32x16 : Shape := ⟨2, ![32, 16]⟩
abbrev S32x1 : Shape := ⟨2, ![32, 1]⟩
abbrev S8x32x65536 : Shape := ⟨3, ![8, 32, 65536]⟩
abbrev S1x16x65536 : Shape := ⟨3, ![1, 16, 65536]⟩
abbrev S1x32x65536 : Shape := ⟨3, ![1, 32, 65536]⟩
abbrev S16x65536 : Shape := ⟨2, ![16, 65536]⟩
abbrev S32x65536 : Shape := ⟨2, ![32, 65536]⟩
abbrev S8x32x256x256 : Shape := ⟨4, ![8, 32, 256, 256]⟩
abbrev S8x32x128x256 : Shape := ⟨4, ![8, 32, 128, 256]⟩
abbrev S8x32x128x128 : Shape := ⟨4, ![8, 32, 128, 128]⟩
abbrev S8x32x128x129 : Shape := ⟨4, ![8, 32, 128, 129]⟩
abbrev S8x128x128x128 : Shape := ⟨4, ![8, 128, 128, 128]⟩
abbrev S64x32x1x1 : Shape := ⟨4, ![64, 32, 1, 1]⟩
abbrev S64x32 : Shape := ⟨2, ![64, 32]⟩
abbrev S64x128 : Shape := ⟨2, ![64, 128]⟩
abbrev S1x64x128 : Shape := ⟨3, ![1, 64, 128]⟩
abbrev S4x64x128 : Shape := ⟨3, ![4, 64, 128]⟩
abbrev S64x1 : Shape := ⟨2, ![64, 1]⟩
abbrev S8x64x16384 : Shape := ⟨3, ![8, 64, 16384]⟩
abbrev S1x128x128x128 : Shape := ⟨4, ![1, 128, 128, 128]⟩
abbrev S1x64x16384 : Shape := ⟨3, ![1, 64, 16384]⟩
abbrev S128x128x128 : Shape := ⟨3, ![128, 128, 128]⟩
abbrev S128x1x128 : Shape := ⟨3, ![128, 1, 128]⟩
abbrev S128x127x128 : Shape := ⟨3, ![128, 127, 128]⟩
abbrev S128x16384 : Shape := ⟨2, ![128, 16384]⟩
abbrev S64x16384 : Shape := ⟨2, ![64, 16384]⟩
abbrev S64x8x16384 : Shape := ⟨3, ![64, 8, 16384]⟩
abbrev S64x131072 : Shape := ⟨2, ![64, 131072]⟩
abbrev S64x1024 : Shape := ⟨2, ![64, 1024]⟩
abbrev S128x1x1024 : Shape := ⟨3, ![128, 1, 1024]⟩
abbrev S1x1 : Shape := ⟨2, ![1, 1]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x64x1024 : Shape := ⟨3, ![1, 64, 1024]⟩
abbrev S1x1x1 : Shape := ⟨3, ![1, 1, 1]⟩
abbrev S131072 : Shape := ⟨1, ![131072]⟩
abbrev S32x64 : Shape := ⟨2, ![32, 64]⟩
abbrev S1x32x64 : Shape := ⟨3, ![1, 32, 64]⟩
abbrev S16x32x64 : Shape := ⟨3, ![16, 32, 64]⟩
abbrev S8x4x32x16384 : Shape := ⟨4, ![8, 4, 32, 16384]⟩
abbrev S1x4x32x16384 : Shape := ⟨4, ![1, 4, 32, 16384]⟩
abbrev S64x128x128 : Shape := ⟨3, ![64, 128, 128]⟩
abbrev S64x1x128 : Shape := ⟨3, ![64, 1, 128]⟩
abbrev S64x127x128 : Shape := ⟨3, ![64, 127, 128]⟩
abbrev S64x128x1 : Shape := ⟨3, ![64, 128, 1]⟩
abbrev S64x128x127 : Shape := ⟨3, ![64, 128, 127]⟩
abbrev S32x16384 : Shape := ⟨2, ![32, 16384]⟩
abbrev S1x1x32x16384 : Shape := ⟨4, ![1, 1, 32, 16384]⟩
abbrev S8x2x2x32x128x128 : Shape := ⟨6, ![8, 2, 2, 32, 128, 128]⟩
abbrev S8x32x128x2x128x2 : Shape := ⟨6, ![8, 32, 128, 2, 128, 2]⟩
abbrev S32x1x1x1 : Shape := ⟨4, ![32, 1, 1, 1]⟩
abbrev S1x32 : Shape := ⟨2, ![1, 32]⟩
abbrev S16x32 : Shape := ⟨2, ![16, 32]⟩
abbrev S8x4x256x256 : Shape := ⟨4, ![8, 4, 256, 256]⟩
abbrev S1x4x256x256 : Shape := ⟨4, ![1, 4, 256, 256]⟩
abbrev S16x256x256 : Shape := ⟨3, ![16, 256, 256]⟩
abbrev S256x256 : Shape := ⟨2, ![256, 256]⟩
abbrev S1x256x256 : Shape := ⟨3, ![1, 256, 256]⟩
abbrev S256x1 : Shape := ⟨2, ![256, 1]⟩
abbrev S256x255 : Shape := ⟨2, ![256, 255]⟩
abbrev S1x256 : Shape := ⟨2, ![1, 256]⟩
abbrev S255x256 : Shape := ⟨2, ![255, 256]⟩
abbrev S1x1x256x256 : Shape := ⟨4, ![1, 1, 256, 256]⟩
abbrev S8x2x2x256x256 : Shape := ⟨5, ![8, 2, 2, 256, 256]⟩
abbrev S8x256x2x256x2 : Shape := ⟨5, ![8, 256, 2, 256, 2]⟩

abbrev nBuf : Space → Nat
  | .hbm => 268
  | .vmem => 35
  | .smem => 0
  | _ => 0

abbrev hbmTy0_0 (i : Nat) : BufTy := match i % 128 with
  | 0 => ⟨S8x1x512x512, .f32⟩
  | 1 => ⟨S32x1x4x4, .f32⟩
  | 2 => ⟨S32, .f32⟩
  | 3 => ⟨S64x32x4x4, .f32⟩
  | 4 => ⟨S64, .f32⟩
  | 5 => ⟨S1024x64, .f32⟩
  | 6 => ⟨S64x32x4x4, .f32⟩
  | 7 => ⟨S32, .f32⟩
  | 8 => ⟨S32x1x4x4, .f32⟩
  | 9 => ⟨S1, .f32⟩
  | 10 => ⟨S8x512x512, .f32⟩
  | 11 => ⟨S_, .i32⟩
  | 12 => ⟨S_, .f32⟩
  | 13 => ⟨S8x514x514, .f32⟩
  | 14 => ⟨S8x256x256, .f32⟩
  | 15 => ⟨S8x65536, .f32⟩
  | 16 => ⟨S8x256x256, .f32⟩
  | 17 => ⟨S8x65536, .f32⟩
  | 18 => ⟨S8x256x256, .f32⟩
  | 19 => ⟨S8x65536, .f32⟩
  | 20 => ⟨S8x256x256, .f32⟩
  | 21 => ⟨S8x65536, .f32⟩
  | 22 => ⟨S8x256x256, .f32⟩
  | 23 => ⟨S8x65536, .f32⟩
  | 24 => ⟨S8x256x256, .f32⟩
  | 25 => ⟨S8x65536, .f32⟩
  | 26 => ⟨S8x256x256, .f32⟩
  | 27 => ⟨S8x65536, .f32⟩
  | 28 => ⟨S8x256x256, .f32⟩
  | 29 => ⟨S8x65536, .f32⟩
  | 30 => ⟨S8x256x256, .f32⟩
  | 31 => ⟨S8x65536, .f32⟩
  | 32 => ⟨S8x256x256, .f32⟩
  | 33 => ⟨S8x65536, .f32⟩
  | 34 => ⟨S8x256x256, .f32⟩
  | 35 => ⟨S8x65536, .f32⟩
  | 36 => ⟨S8x256x256, .f32⟩
  | 37 => ⟨S8x65536, .f32⟩
  | 38 => ⟨S8x256x256, .f32⟩
  | 39 => ⟨S8x65536, .f32⟩
  | 40 => ⟨S8x256x256, .f32⟩
  | 41 => ⟨S8x65536, .f32⟩
  | 42 => ⟨S8x256x256, .f32⟩
  | 43 => ⟨S8x65536, .f32⟩
  | 44 => ⟨S8x256x256, .f32⟩
  | 45 => ⟨S8x65536, .f32⟩
  | 46 => ⟨S8x1x65536, .f32⟩
  | 47 => ⟨S8x1x65536, .f32⟩
  | 48 => ⟨S8x1x65536, .f32⟩
  | 49 => ⟨S8x1x65536, .f32⟩
  | 50 => ⟨S8x1x65536, .f32⟩
  | 51 => ⟨S8x1x65536, .f32⟩
  | 52 => ⟨S8x1x65536, .f32⟩
  | 53 => ⟨S8x1x65536, .f32⟩
  | 54 => ⟨S8x1x65536, .f32⟩
  | 55 => ⟨S8x1x65536, .f32⟩
  | 56 => ⟨S8x1x65536, .f32⟩
  | 57 => ⟨S8x1x65536, .f32⟩
  | 58 => ⟨S8x1x65536, .f32⟩
  | 59 => ⟨S8x1x65536, .f32⟩
  | 60 => ⟨S8x1x65536, .f32⟩
  | 61 => ⟨S8x1x65536, .f32⟩
  | 62 => ⟨S8x16x65536, .f32⟩
  | 63 => ⟨S32x16, .f32⟩
  | 64 => ⟨S32x1, .f32⟩
  | 65 => ⟨S8x32x65536, .f32⟩
  | 66 => ⟨S8x32x256x256, .f32⟩
  | 67 => ⟨S8x32x128x256, .f32⟩
  | 68 => ⟨S8x32x128x256, .f32⟩
  | 69 => ⟨S8x32x128x128, .f32⟩
  | 70 => ⟨S8x32x128x128, .f32⟩
  | 71 => ⟨S_, .i32⟩
  | 72 => ⟨S_, .f32⟩
  | 73 => ⟨S8x32x128x129, .f32⟩
  | 74 => ⟨S8x32x128x128, .f32⟩
  | 75 => ⟨S_, .i32⟩
  | 76 => ⟨S_, .f32⟩
  | 77 => ⟨S8x32x128x129, .f32⟩
  | 78 => ⟨S8x32x128x128, .f32⟩
  | 79 => ⟨S8x128x128x128, .f32⟩
  | 80 => ⟨S8x32x128x128, .f32⟩
  | 81 => ⟨S8x32x128x128, .f32⟩
  | 82 => ⟨S_, .i32⟩
  | 83 => ⟨S_, .f32⟩
  | 84 => ⟨S8x32x128x129, .f32⟩
  | 85 => ⟨S8x32x128x128, .f32⟩
  | 86 => ⟨S_, .i32⟩
  | 87 => ⟨S_, .f32⟩
  | 88 => ⟨S8x32x128x129, .f32⟩
  | 89 => ⟨S8x32x128x128, .f32⟩
  | 90 => ⟨S8x128x128x128, .f32⟩
  | 91 => ⟨S64x32x1x1, .f32⟩
  | 92 => ⟨S64x32, .f32⟩
  | 93 => ⟨S64x32x1x1, .f32⟩
  | 94 => ⟨S64x32, .f32⟩
  | 95 => ⟨S64x32x1x1, .f32⟩
  | 96 => ⟨S64x32, .f32⟩
  | 97 => ⟨S64x32x1x1, .f32⟩
  | 98 => ⟨S64x32, .f32⟩
  | 99 => ⟨S64x128, .f32⟩
  | 100 => ⟨S64x32x1x1, .f32⟩
  | 101 => ⟨S64x32, .f32⟩
  | 102 => ⟨S64x32x1x1, .f32⟩
  | 103 => ⟨S64x32, .f32⟩
  | 104 => ⟨S64x32x1x1, .f32⟩
  | 105 => ⟨S64x32, .f32⟩
  | 106 => ⟨S64x32x1x1, .f32⟩
  | 107 => ⟨S64x32, .f32⟩
  | 108 => ⟨S64x128, .f32⟩
  | 109 => ⟨S64x32x1x1, .f32⟩
  | 110 => ⟨S64x32, .f32⟩
  | 111 => ⟨S64x32x1x1, .f32⟩
  | 112 => ⟨S64x32, .f32⟩
  | 113 => ⟨S64x32x1x1, .f32⟩
  | 114 => ⟨S64x32, .f32⟩
  | 115 => ⟨S64x32x1x1, .f32⟩
  | 116 => ⟨S64x32, .f32⟩
  | 117 => ⟨S64x128, .f32⟩
  | 118 => ⟨S64x32x1x1, .f32⟩
  | 119 => ⟨S64x32, .f32⟩
  | 120 => ⟨S64x32x1x1, .f32⟩
  | 121 => ⟨S64x32, .f32⟩
  | 122 => ⟨S64x32x1x1, .f32⟩
  | 123 => ⟨S64x32, .f32⟩
  | 124 => ⟨S64x32x1x1, .f32⟩
  | 125 => ⟨S64x32, .f32⟩
  | 126 => ⟨S64x128, .f32⟩
  | 127 => ⟨S1x64x128, .f32⟩
  | _ => ⟨S8x1x512x512, .f32⟩

abbrev hbmTy0_1 (i : Nat) : BufTy := match i % 128 with
  | 0 => ⟨S1x64x128, .f32⟩
  | 1 => ⟨S1x64x128, .f32⟩
  | 2 => ⟨S1x64x128, .f32⟩
  | 3 => ⟨S4x64x128, .f32⟩
  | 4 => ⟨S64x1, .f32⟩
  | 5 => ⟨S8x64x16384, .f32⟩
  | 6 => ⟨S64x8x16384, .f32⟩
  | 7 => ⟨S64x131072, .f32⟩
  | 8 => ⟨S64x1024, .f32⟩
  | 9 => ⟨S128x1x1024, .i32⟩
  | 10 => ⟨S64x131072, .f32⟩
  | 11 => ⟨S1x1, .f32⟩
  | 12 => ⟨S131072, .i32⟩
  | 13 => ⟨S_, .f32⟩
  | 14 => ⟨S64x8x16384, .f32⟩
  | 15 => ⟨S8x64x16384, .f32⟩
  | 16 => ⟨S64x32x1x1, .f32⟩
  | 17 => ⟨S64x32, .f32⟩
  | 18 => ⟨S32x64, .f32⟩
  | 19 => ⟨S64x32x1x1, .f32⟩
  | 20 => ⟨S64x32, .f32⟩
  | 21 => ⟨S32x64, .f32⟩
  | 22 => ⟨S64x32x1x1, .f32⟩
  | 23 => ⟨S64x32, .f32⟩
  | 24 => ⟨S32x64, .f32⟩
  | 25 => ⟨S64x32x1x1, .f32⟩
  | 26 => ⟨S64x32, .f32⟩
  | 27 => ⟨S32x64, .f32⟩
  | 28 => ⟨S64x32x1x1, .f32⟩
  | 29 => ⟨S64x32, .f32⟩
  | 30 => ⟨S32x64, .f32⟩
  | 31 => ⟨S64x32x1x1, .f32⟩
  | 32 => ⟨S64x32, .f32⟩
  | 33 => ⟨S32x64, .f32⟩
  | 34 => ⟨S64x32x1x1, .f32⟩
  | 35 => ⟨S64x32, .f32⟩
  | 36 => ⟨S32x64, .f32⟩
  | 37 => ⟨S64x32x1x1, .f32⟩
  | 38 => ⟨S64x32, .f32⟩
  | 39 => ⟨S32x64, .f32⟩
  | 40 => ⟨S64x32x1x1, .f32⟩
  | 41 => ⟨S64x32, .f32⟩
  | 42 => ⟨S32x64, .f32⟩
  | 43 => ⟨S64x32x1x1, .f32⟩
  | 44 => ⟨S64x32, .f32⟩
  | 45 => ⟨S32x64, .f32⟩
  | 46 => ⟨S64x32x1x1, .f32⟩
  | 47 => ⟨S64x32, .f32⟩
  | 48 => ⟨S32x64, .f32⟩
  | 49 => ⟨S64x32x1x1, .f32⟩
  | 50 => ⟨S64x32, .f32⟩
  | 51 => ⟨S32x64, .f32⟩
  | 52 => ⟨S64x32x1x1, .f32⟩
  | 53 => ⟨S64x32, .f32⟩
  | 54 => ⟨S32x64, .f32⟩
  | 55 => ⟨S64x32x1x1, .f32⟩
  | 56 => ⟨S64x32, .f32⟩
  | 57 => ⟨S32x64, .f32⟩
  | 58 => ⟨S64x32x1x1, .f32⟩
  | 59 => ⟨S64x32, .f32⟩
  | 60 => ⟨S32x64, .f32⟩
  | 61 => ⟨S64x32x1x1, .f32⟩
  | 62 => ⟨S64x32, .f32⟩
  | 63 => ⟨S32x64, .f32⟩
  | 64 => ⟨S1x32x64, .f32⟩
  | 65 => ⟨S1x32x64, .f32⟩
  | 66 => ⟨S1x32x64, .f32⟩
  | 67 => ⟨S1x32x64, .f32⟩
  | 68 => ⟨S1x32x64, .f32⟩
  | 69 => ⟨S1x32x64, .f32⟩
  | 70 => ⟨S1x32x64, .f32⟩
  | 71 => ⟨S1x32x64, .f32⟩
  | 72 => ⟨S1x32x64, .f32⟩
  | 73 => ⟨S1x32x64, .f32⟩
  | 74 => ⟨S1x32x64, .f32⟩
  | 75 => ⟨S1x32x64, .f32⟩
  | 76 => ⟨S1x32x64, .f32⟩
  | 77 => ⟨S1x32x64, .f32⟩
  | 78 => ⟨S1x32x64, .f32⟩
  | 79 => ⟨S1x32x64, .f32⟩
  | 80 => ⟨S16x32x64, .f32⟩
  | 81 => ⟨S32x1, .f32⟩
  | 82 => ⟨S8x4x32x16384, .f32⟩
  | 83 => ⟨S8x2x2x32x128x128, .f32⟩
  | 84 => ⟨S8x32x128x2x128x2, .f32⟩
  | 85 => ⟨S8x32x65536, .f32⟩
  | 86 => ⟨S32x1x1x1, .f32⟩
  | 87 => ⟨S32, .f32⟩
  | 88 => ⟨S32x1x1x1, .f32⟩
  | 89 => ⟨S32, .f32⟩
  | 90 => ⟨S32x1x1x1, .f32⟩
  | 91 => ⟨S32, .f32⟩
  | 92 => ⟨S32x1x1x1, .f32⟩
  | 93 => ⟨S32, .f32⟩
  | 94 => ⟨S32x1x1x1, .f32⟩
  | 95 => ⟨S32, .f32⟩
  | 96 => ⟨S32x1x1x1, .f32⟩
  | 97 => ⟨S32, .f32⟩
  | 98 => ⟨S32x1x1x1, .f32⟩
  | 99 => ⟨S32, .f32⟩
  | 100 => ⟨S32x1x1x1, .f32⟩
  | 101 => ⟨S32, .f32⟩
  | 102 => ⟨S32x1x1x1, .f32⟩
  | 103 => ⟨S32, .f32⟩
  | 104 => ⟨S32x1x1x1, .f32⟩
  | 105 => ⟨S32, .f32⟩
  | 106 => ⟨S32x1x1x1, .f32⟩
  | 107 => ⟨S32, .f32⟩
  | 108 => ⟨S32x1x1x1, .f32⟩
  | 109 => ⟨S32, .f32⟩
  | 110 => ⟨S32x1x1x1, .f32⟩
  | 111 => ⟨S32, .f32⟩
  | 112 => ⟨S32x1x1x1, .f32⟩
  | 113 => ⟨S32, .f32⟩
  | 114 => ⟨S32x1x1x1, .f32⟩
  | 115 => ⟨S32, .f32⟩
  | 116 => ⟨S32x1x1x1, .f32⟩
  | 117 => ⟨S32, .f32⟩
  | 118 => ⟨S1x32, .f32⟩
  | 119 => ⟨S1x32, .f32⟩
  | 120 => ⟨S1x32, .f32⟩
  | 121 => ⟨S1x32, .f32⟩
  | 122 => ⟨S1x32, .f32⟩
  | 123 => ⟨S1x32, .f32⟩
  | 124 => ⟨S1x32, .f32⟩
  | 125 => ⟨S1x32, .f32⟩
  | 126 => ⟨S1x32, .f32⟩
  | 127 => ⟨S1x32, .f32⟩
  | _ => ⟨S8x1x512x512, .f32⟩

abbrev hbmTy0_2 (i : Nat) : BufTy := match i % 128 with
  | 0 => ⟨S1x32, .f32⟩
  | 1 => ⟨S1x32, .f32⟩
  | 2 => ⟨S1x32, .f32⟩
  | 3 => ⟨S1x32, .f32⟩
  | 4 => ⟨S1x32, .f32⟩
  | 5 => ⟨S1x32, .f32⟩
  | 6 => ⟨S16x32, .f32⟩
  | 7 => ⟨S1x1, .f32⟩
  | 8 => ⟨S8x4x256x256, .f32⟩
  | 9 => ⟨S8x2x2x256x256, .f32⟩
  | 10 => ⟨S8x256x2x256x2, .f32⟩
  | 11 => ⟨S8x1x512x512, .f32⟩
  | _ => ⟨S8x1x512x512, .f32⟩

abbrev hbmTy (i : Nat) : BufTy := match i / 128 with
  | 0 => hbmTy0_0 i
  | 1 => hbmTy0_1 i
  | 2 => hbmTy0_2 i
  | _ => ⟨S8x1x512x512, .f32⟩

abbrev bufTy : (tb : Table) → Fin (tcTables nBuf tb) → BufTy
  | .hbm, ⟨i, _⟩ => hbmTy i
  | .local _ .vmem, ⟨0, _⟩ => ⟨S1x16x65536, .f32⟩
  | .local _ .vmem, ⟨1, _⟩ => ⟨S1x16x65536, .f32⟩
  | .local _ .vmem, ⟨2, _⟩ => ⟨S32x16, .f32⟩
  | .local _ .vmem, ⟨3, _⟩ => ⟨S32x1, .f32⟩
  | .local _ .vmem, ⟨4, _⟩ => ⟨S1x32x65536, .f32⟩
  | .local _ .vmem, ⟨5, _⟩ => ⟨S1x32x65536, .f32⟩
  | .local _ .vmem, ⟨6, _⟩ => ⟨S1x128x128x128, .f32⟩
  | .local _ .vmem, ⟨7, _⟩ => ⟨S1x128x128x128, .f32⟩
  | .local _ .vmem, ⟨8, _⟩ => ⟨S1x128x128x128, .f32⟩
  | .local _ .vmem, ⟨9, _⟩ => ⟨S1x128x128x128, .f32⟩
  | .local _ .vmem, ⟨10, _⟩ => ⟨S4x64x128, .f32⟩
  | .local _ .vmem, ⟨11, _⟩ => ⟨S64x1, .f32⟩
  | .local _ .vmem, ⟨12, _⟩ => ⟨S1x64x16384, .f32⟩
  | .local _ .vmem, ⟨13, _⟩ => ⟨S1x64x16384, .f32⟩
  | .local _ .vmem, ⟨14, _⟩ => ⟨S64x1024, .f32⟩
  | .local _ .vmem, ⟨15, _⟩ => ⟨S64x1024, .f32⟩
  | .local _ .vmem, ⟨16, _⟩ => ⟨S1024x64, .f32⟩
  | .local _ .vmem, ⟨17, _⟩ => ⟨S64x1024, .f32⟩
  | .local _ .vmem, ⟨18, _⟩ => ⟨S1x1x1024, .i32⟩
  | .local _ .vmem, ⟨19, _⟩ => ⟨S1x1x1024, .i32⟩
  | .local _ .vmem, ⟨20, _⟩ => ⟨S64x1024, .f32⟩
  | .local _ .vmem, ⟨21, _⟩ => ⟨S64x1024, .f32⟩
  | .local _ .vmem, ⟨22, _⟩ => ⟨S1x1, .f32⟩
  | .local _ .vmem, ⟨23, _⟩ => ⟨S1x64x16384, .f32⟩
  | .local _ .vmem, ⟨24, _⟩ => ⟨S1x64x16384, .f32⟩
  | .local _ .vmem, ⟨25, _⟩ => ⟨S16x32x64, .f32⟩
  | .local _ .vmem, ⟨26, _⟩ => ⟨S32x1, .f32⟩
  | .local _ .vmem, ⟨27, _⟩ => ⟨S1x4x32x16384, .f32⟩
  | .local _ .vmem, ⟨28, _⟩ => ⟨S1x4x32x16384, .f32⟩
  | .local _ .vmem, ⟨29, _⟩ => ⟨S1x32x65536, .f32⟩
  | .local _ .vmem, ⟨30, _⟩ => ⟨S1x32x65536, .f32⟩
  | .local _ .vmem, ⟨31, _⟩ => ⟨S16x32, .f32⟩
  | .local _ .vmem, ⟨32, _⟩ => ⟨S1x1, .f32⟩
  | .local _ .vmem, ⟨33, _⟩ => ⟨S1x4x256x256, .f32⟩
  | .local _ .vmem, ⟨34, _⟩ => ⟨S1x4x256x256, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_0 : Ref sig .tc := ⟨.hbm, 71, rfl⟩
abbrev main_call1_v0 : Ref sig .tc := ⟨.hbm, 72, rfl⟩
abbrev main_v59 : Ref sig .tc := ⟨.hbm, 73, rfl⟩
abbrev main_v60 : Ref sig .tc := ⟨.hbm, 74, rfl⟩
abbrev main_c_1 : Ref sig .tc := ⟨.hbm, 75, rfl⟩
abbrev main_call2_v0 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_2 : Ref sig .tc := ⟨.hbm, 82, rfl⟩
abbrev main_call3_v0 : Ref sig .tc := ⟨.hbm, 83, rfl⟩
abbrev main_v66 : Ref sig .tc := ⟨.hbm, 84, rfl⟩
abbrev main_v67 : Ref sig .tc := ⟨.hbm, 85, rfl⟩
abbrev main_c_3 : Ref sig .tc := ⟨.hbm, 86, rfl⟩
abbrev main_call4_v0 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117_0 : Ref sig .tc := ⟨.hbm, 137, rfl⟩
abbrev main_v117_1 : Ref sig .tc := ⟨.hbm, 138, rfl⟩
abbrev main_v117_2 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x64x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x4x32x16384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x32x65536 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x4x256x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S8x1x512x512 : Shape := ⟨4, ![8, 1, 512, 512]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S1024x64 : Shape := ⟨2, ![1024, 64]⟩
abbrev S1 : Shape := ⟨1, ![1]⟩
abbrev S_ : Shape := ⟨0, ![]⟩
abbrev S8x1x514x514 : Shape := ⟨4, ![8, 1, 514, 514]⟩
abbrev S8x1x1x514x514 : Shape := ⟨5, ![8, 1, 1, 514, 514]⟩
abbrev S1x32x1x4x4 : Shape := ⟨5, ![1, 32, 1, 4, 4]⟩
abbrev S8x32x1x256x256 : Shape := ⟨5, ![8, 32, 1, 256, 256]⟩
abbrev S1x32x1x1x1 : Shape := ⟨5, ![1, 32, 1, 1, 1]⟩
abbrev S8x1x1x256x256 : Shape := ⟨5, ![8, 1, 1, 256, 256]⟩
abbrev S8x32x256x256 : Shape := ⟨4, ![8, 32, 256, 256]⟩
abbrev S1x32x1x1 : Shape := ⟨4, ![1, 32, 1, 1]⟩
abbrev S8x32x258x258 : Shape := ⟨4, ![8, 32, 258, 258]⟩
abbrev S8x1x32x258x258 : Shape := ⟨5, ![8, 1, 32, 258, 258]⟩
abbrev S1x64x32x4x4 : Shape := ⟨5, ![1, 64, 32, 4, 4]⟩
abbrev S8x64x32x128x128 : Shape := ⟨5, ![8, 64, 32, 128, 128]⟩
abbrev S1x64x32x1x1 : Shape := ⟨5, ![1, 64, 32, 1, 1]⟩
abbrev S8x1x32x128x128 : Shape := ⟨5, ![8, 1, 32, 128, 128]⟩
abbrev S8x64x128x128 : Shape := ⟨4, ![8, 64, 128, 128]⟩
abbrev S1x64x1x1 : Shape := ⟨4, ![1, 64, 1, 1]⟩
abbrev S8x128x128x64 : Shape := ⟨4, ![8, 128, 128, 64]⟩
abbrev S131072x64 : Shape := ⟨2, ![131072, 64]⟩
abbrev S131072 : Shape := ⟨1, ![131072]⟩
abbrev S131072x1 : Shape := ⟨2, ![131072, 1]⟩
abbrev S64x1024 : Shape := ⟨2, ![64, 1024]⟩
abbrev S131072x1024 : Shape := ⟨2, ![131072, 1024]⟩
abbrev S1024 : Shape := ⟨1, ![1024]⟩
abbrev S1x1024 : Shape := ⟨2, ![1, 1024]⟩
abbrev S1x1 : Shape := ⟨2, ![1, 1]⟩
abbrev S8x64x259x259 : Shape := ⟨4, ![8, 64, 259, 259]⟩
abbrev S8x64x1x259x259 : Shape := ⟨5, ![8, 64, 1, 259, 259]⟩
abbrev S8x64x32x256x256 : Shape := ⟨5, ![8, 64, 32, 256, 256]⟩
abbrev S8x64x1x256x256 : Shape := ⟨5, ![8, 64, 1, 256, 256]⟩
abbrev S8x32x515x515 : Shape := ⟨4, ![8, 32, 515, 515]⟩
abbrev S8x32x1x515x515 : Shape := ⟨5, ![8, 32, 1, 515, 515]⟩
abbrev S8x32x1x512x512 : Shape := ⟨5, ![8, 32, 1, 512, 512]⟩
abbrev S1x1x1x1 : Shape := ⟨4, ![1, 1, 1, 1]⟩

abbrev nBuf : Space → Nat
  | .hbm => 500
  | .vmem => 0
  | .smem => 0
  | _ => 0

abbrev hbmTy0_0 (i : Nat) : BufTy := match i % 128 with
  | 0 => ⟨S8x1x512x512, .f32⟩
  | 1 => ⟨S32x1x4x4, .f32⟩
  | 2 => ⟨S32, .f32⟩
  | 3 => ⟨S64x32x4x4, .f32⟩
  | 4 => ⟨S64, .f32⟩
  | 5 => ⟨S1024x64, .f32⟩
  | 6 => ⟨S64x32x4x4, .f32⟩
  | 7 => ⟨S32, .f32⟩
  | 8 => ⟨S32x1x4x4, .f32⟩
  | 9 => ⟨S1, .f32⟩
  | 10 => ⟨S_, .i32⟩
  | 11 => ⟨S_, .f32⟩
  | 12 => ⟨S8x1x514x514, .f32⟩
  | 13 => ⟨S8x1x1x514x514, .f32⟩
  | 14 => ⟨S1x32x1x4x4, .f32⟩
  | 15 => ⟨S_, .f32⟩
  | 16 => ⟨S8x32x1x256x256, .f32⟩
  | 17 => ⟨S1x32x1x1x1, .f32⟩
  | 18 => ⟨S8x1x1x256x256, .f32⟩
  | 19 => ⟨S8x32x1x256x256, .f32⟩
  | 20 => ⟨S8x32x1x256x256, .f32⟩
  | 21 => ⟨S8x32x1x256x256, .f32⟩
  | 22 => ⟨S8x32x1x256x256, .f32⟩
  | 23 => ⟨S1x32x1x1x1, .f32⟩
  | 24 => ⟨S8x1x1x256x256, .f32⟩
  | 25 => ⟨S8x32x1x256x256, .f32⟩
  | 26 => ⟨S8x32x1x256x256, .f32⟩
  | 27 => ⟨S8x32x1x256x256, .f32⟩
  | 28 => ⟨S8x32x1x256x256, .f32⟩
  | 29 => ⟨S1x32x1x1x1, .f32⟩
  | 30 => ⟨S8x1x1x256x256, .f32⟩
  | 31 => ⟨S8x32x1x256x256, .f32⟩
  | 32 => ⟨S8x32x1x256x256, .f32⟩
  | 33 => ⟨S8x32x1x256x256, .f32⟩
  | 34 => ⟨S8x32x1x256x256, .f32⟩
  | 35 => ⟨S1x32x1x1x1, .f32⟩
  | 36 => ⟨S8x1x1x256x256, .f32⟩
  | 37 => ⟨S8x32x1x256x256, .f32⟩
  | 38 => ⟨S8x32x1x256x256, .f32⟩
  | 39 => ⟨S8x32x1x256x256, .f32⟩
  | 40 => ⟨S8x32x1x256x256, .f32⟩
  | 41 => ⟨S1x32x1x1x1, .f32⟩
  | 42 => ⟨S8x1x1x256x256, .f32⟩
  | 43 => ⟨S8x32x1x256x256, .f32⟩
  | 44 => ⟨S8x32x1x256x256, .f32⟩
  | 45 => ⟨S8x32x1x256x256, .f32⟩
  | 46 => ⟨S8x32x1x256x256, .f32⟩
  | 47 => ⟨S1x32x1x1x1, .f32⟩
  | 48 => ⟨S8x1x1x256x256, .f32⟩
  | 49 => ⟨S8x32x1x256x256, .f32⟩
  | 50 => ⟨S8x32x1x256x256, .f32⟩
  | 51 => ⟨S8x32x1x256x256, .f32⟩
  | 52 => ⟨S8x32x1x256x256, .f32⟩
  | 53 => ⟨S1x32x1x1x1, .f32⟩
  | 54 => ⟨S8x1x1x256x256, .f32⟩
  | 55 => ⟨S8x32x1x256x256, .f32⟩
  | 56 => ⟨S8x32x1x256x256, .f32⟩
  | 57 => ⟨S8x32x1x256x256, .f32⟩
  | 58 => ⟨S8x32x1x256x256, .f32⟩
  | 59 => ⟨S1x32x1x1x1, .f32⟩
  | 60 => ⟨S8x1x1x256x256, .f32⟩
  | 61 => ⟨S8x32x1x256x256, .f32⟩
  | 62 => ⟨S8x32x1x256x256, .f32⟩
  | 63 => ⟨S8x32x1x256x256, .f32⟩
  | 64 => ⟨S8x32x1x256x256, .f32⟩
  | 65 => ⟨S1x32x1x1x1, .f32⟩
  | 66 => ⟨S8x1x1x256x256, .f32⟩
  | 67 => ⟨S8x32x1x256x256, .f32⟩
  | 68 => ⟨S8x32x1x256x256, .f32⟩
  | 69 => ⟨S8x32x1x256x256, .f32⟩
  | 70 => ⟨S8x32x1x256x256, .f32⟩
  | 71 => ⟨S1x32x1x1x1, .f32⟩
  | 72 => ⟨S8x1x1x256x256, .f32⟩
  | 73 => ⟨S8x32x1x256x256, .f32⟩
  | 74 => ⟨S8x32x1x256x256, .f32⟩
  | 75 => ⟨S8x32x1x256x256, .f32⟩
  | 76 => ⟨S8x32x1x256x256, .f32⟩
  | 77 => ⟨S1x32x1x1x1, .f32⟩
  | 78 => ⟨S8x1x1x256x256, .f32⟩
  | 79 => ⟨S8x32x1x256x256, .f32⟩
  | 80 => ⟨S8x32x1x256x256, .f32⟩
  | 81 => ⟨S8x32x1x256x256, .f32⟩
  | 82 => ⟨S8x32x1x256x256, .f32⟩
  | 83 => ⟨S1x32x1x1x1, .f32⟩
  | 84 => ⟨S8x1x1x256x256, .f32⟩
  | 85 => ⟨S8x32x1x256x256, .f32⟩
  | 86 => ⟨S8x32x1x256x256, .f32⟩
  | 87 => ⟨S8x32x1x256x256, .f32⟩
  | 88 => ⟨S8x32x1x256x256, .f32⟩
  | 89 => ⟨S1x32x1x1x1, .f32⟩
  | 90 => ⟨S8x1x1x256x256, .f32⟩
  | 91 => ⟨S8x32x1x256x256, .f32⟩
  | 92 => ⟨S8x32x1x256x256, .f32⟩
  | 93 => ⟨S8x32x1x256x256, .f32⟩
  | 94 => ⟨S8x32x1x256x256, .f32⟩
  | 95 => ⟨S1x32x1x1x1, .f32⟩
  | 96 => ⟨S8x1x1x256x256, .f32⟩
  | 97 => ⟨S8x32x1x256x256, .f32⟩
  | 98 => ⟨S8x32x1x256x256, .f32⟩
  | 99 => ⟨S8x32x1x256x256, .f32⟩
  | 100 => ⟨S8x32x1x256x256, .f32⟩
  | 101 => ⟨S1x32x1x1x1, .f32⟩
  | 102 => ⟨S8x1x1x256x256, .f32⟩
  | 103 => ⟨S8x32x1x256x256, .f32⟩
  | 104 => ⟨S8x32x1x256x256, .f32⟩
  | 105 => ⟨S8x32x1x256x256, .f32⟩
  | 106 => ⟨S8x32x1x256x256, .f32⟩
  | 107 => ⟨S1x32x1x1x1, .f32⟩
  | 108 => ⟨S8x1x1x256x256, .f32⟩
  | 109 => ⟨S8x32x1x256x256, .f32⟩
  | 110 => ⟨S8x32x1x256x256, .f32⟩
  | 111 => ⟨S8x32x1x256x256, .f32⟩
  | 112 => ⟨S8x32x1x256x256, .f32⟩
  | 113 => ⟨S_, .f32⟩
  | 114 => ⟨S8x32x256x256, .f32⟩
  | 115 => ⟨S1x32x1x1, .f32⟩
  | 116 => ⟨S8x32x256x256, .f32⟩
  | 117 => ⟨S8x32x256x256, .f32⟩
  | 118 => ⟨S_, .f32⟩
  | 119 => ⟨S8x32x256x256, .f32⟩
  | 120 => ⟨S8x32x256x256, .f32⟩
  | 121 => ⟨S_, .i32⟩
  | 122 => ⟨S_, .f32⟩
  | 123 => ⟨S8x32x258x258, .f32⟩
  | 124 => ⟨S8x1x32x258x258, .f32⟩
  | 125 => ⟨S1x64x32x4x4, .f32⟩
  | 126 => ⟨S_, .f32⟩
  | 127 => ⟨S8x64x32x128x128, .f32⟩
  | _ => ⟨S8x1x512x512, .f32⟩

abbrev hbmTy0_1 (i : Nat) : BufTy := match i % 128 with
  | 0 => ⟨S1x64x32x1x1, .f32⟩
  | 1 => ⟨S8x1x32x128x128, .f32⟩
  | 2 => ⟨S8x64x32x128x128, .f32⟩
  | 3 => ⟨S8x64x32x128x128, .f32⟩
  | 4 => ⟨S8x64x32x128x128, .f32⟩
  | 5 => ⟨S8x64x32x128x128, .f32⟩
  | 6 => ⟨S1x64x32x1x1, .f32⟩
  | 7 => ⟨S8x1x32x128x128, .f32⟩
  | 8 => ⟨S8x64x32x128x128, .f32⟩
  | 9 => ⟨S8x64x32x128x128, .f32⟩
  | 10 => ⟨S8x64x32x128x128, .f32⟩
  | 11 => ⟨S8x64x32x128x128, .f32⟩
  | 12 => ⟨S1x64x32x1x1, .f32⟩
  | 13 => ⟨S8x1x32x128x128, .f32⟩
  | 14 => ⟨S8x64x32x128x128, .f32⟩
  | 15 => ⟨S8x64x32x128x128, .f32⟩
  | 16 => ⟨S8x64x32x128x128, .f32⟩
  | 17 => ⟨S8x64x32x128x128, .f32⟩
  | 18 => ⟨S1x64x32x1x1, .f32⟩
  | 19 => ⟨S8x1x32x128x128, .f32⟩
  | 20 => ⟨S8x64x32x128x128, .f32⟩
  | 21 => ⟨S8x64x32x128x128, .f32⟩
  | 22 => ⟨S8x64x32x128x128, .f32⟩
  | 23 => ⟨S8x64x32x128x128, .f32⟩
  | 24 => ⟨S1x64x32x1x1, .f32⟩
  | 25 => ⟨S8x1x32x128x128, .f32⟩
  | 26 => ⟨S8x64x32x128x128, .f32⟩
  | 27 => ⟨S8x64x32x128x128, .f32⟩
  | 28 => ⟨S8x64x32x128x128, .f32⟩
  | 29 => ⟨S8x64x32x128x128, .f32⟩
  | 30 => ⟨S1x64x32x1x1, .f32⟩
  | 31 => ⟨S8x1x32x128x128, .f32⟩
  | 32 => ⟨S8x64x32x128x128, .f32⟩
  | 33 => ⟨S8x64x32x128x128, .f32⟩
  | 34 => ⟨S8x64x32x128x128, .f32⟩
  | 35 => ⟨S8x64x32x128x128, .f32⟩
  | 36 => ⟨S1x64x32x1x1, .f32⟩
  | 37 => ⟨S8x1x32x128x128, .f32⟩
  | 38 => ⟨S8x64x32x128x128, .f32⟩
  | 39 => ⟨S8x64x32x128x128, .f32⟩
  | 40 => ⟨S8x64x32x128x128, .f32⟩
  | 41 => ⟨S8x64x32x128x128, .f32⟩
  | 42 => ⟨S1x64x32x1x1, .f32⟩
  | 43 => ⟨S8x1x32x128x128, .f32⟩
  | 44 => ⟨S8x64x32x128x128, .f32⟩
  | 45 => ⟨S8x64x32x128x128, .f32⟩
  | 46 => ⟨S8x64x32x128x128, .f32⟩
  | 47 => ⟨S8x64x32x128x128, .f32⟩
  | 48 => ⟨S1x64x32x1x1, .f32⟩
  | 49 => ⟨S8x1x32x128x128, .f32⟩
  | 50 => ⟨S8x64x32x128x128, .f32⟩
  | 51 => ⟨S8x64x32x128x128, .f32⟩
  | 52 => ⟨S8x64x32x128x128, .f32⟩
  | 53 => ⟨S8x64x32x128x128, .f32⟩
  | 54 => ⟨S1x64x32x1x1, .f32⟩
  | 55 => ⟨S8x1x32x128x128, .f32⟩
  | 56 => ⟨S8x64x32x128x128, .f32⟩
  | 57 => ⟨S8x64x32x128x128, .f32⟩
  | 58 => ⟨S8x64x32x128x128, .f32⟩
  | 59 => ⟨S8x64x32x128x128, .f32⟩
  | 60 => ⟨S1x64x32x1x1, .f32⟩
  | 61 => ⟨S8x1x32x128x128, .f32⟩
  | 62 => ⟨S8x64x32x128x128, .f32⟩
  | 63 => ⟨S8x64x32x128x128, .f32⟩
  | 64 => ⟨S8x64x32x128x128, .f32⟩
  | 65 => ⟨S8x64x32x128x128, .f32⟩
  | 66 => ⟨S1x64x32x1x1, .f32⟩
  | 67 => ⟨S8x1x32x128x128, .f32⟩
  | 68 => ⟨S8x64x32x128x128, .f32⟩
  | 69 => ⟨S8x64x32x128x128, .f32⟩
  | 70 => ⟨S8x64x32x128x128, .f32⟩
  | 71 => ⟨S8x64x32x128x128, .f32⟩
  | 72 => ⟨S1x64x32x1x1, .f32⟩
  | 73 => ⟨S8x1x32x128x128, .f32⟩
  | 74 => ⟨S8x64x32x128x128, .f32⟩
  | 75 => ⟨S8x64x32x128x128, .f32⟩
  | 76 => ⟨S8x64x32x128x128, .f32⟩
  | 77 => ⟨S8x64x32x128x128, .f32⟩
  | 78 => ⟨S1x64x32x1x1, .f32⟩
  | 79 => ⟨S8x1x32x128x128, .f32⟩
  | 80 => ⟨S8x64x32x128x128, .f32⟩
  | 81 => ⟨S8x64x32x128x128, .f32⟩
  | 82 => ⟨S8x64x32x128x128, .f32⟩
  | 83 => ⟨S8x64x32x128x128, .f32⟩
  | 84 => ⟨S1x64x32x1x1, .f32⟩
  | 85 => ⟨S8x1x32x128x128, .f32⟩
  | 86 => ⟨S8x64x32x128x128, .f32⟩
  | 87 => ⟨S8x64x32x128x128, .f32⟩
  | 88 => ⟨S8x64x32x128x128, .f32⟩
  | 89 => ⟨S8x64x32x128x128, .f32⟩
  | 90 => ⟨S1x64x32x1x1, .f32⟩
  | 91 => ⟨S8x1x32x128x128, .f32⟩
  | 92 => ⟨S8x64x32x128x128, .f32⟩
  | 93 => ⟨S8x64x32x128x128, .f32⟩
  | 94 => ⟨S8x64x32x128x128, .f32⟩
  | 95 => ⟨S8x64x32x128x128, .f32⟩
  | 96 => ⟨S_, .f32⟩
  | 97 => ⟨S8x64x128x128, .f32⟩
  | 98 => ⟨S1x64x1x1, .f32⟩
  | 99 => ⟨S8x64x128x128, .f32⟩
  | 100 => ⟨S8x64x128x128, .f32⟩
  | 101 => ⟨S_, .f32⟩
  | 102 => ⟨S8x64x128x128, .f32⟩
  | 103 => ⟨S8x64x128x128, .f32⟩
  | 104 => ⟨S8x128x128x64, .f32⟩
  | 105 => ⟨S131072x64, .f32⟩
  | 106 => ⟨S131072x64, .f32⟩
  | 107 => ⟨S_, .f32⟩
  | 108 => ⟨S131072, .f32⟩
  | 109 => ⟨S131072x1, .f32⟩
  | 110 => ⟨S_, .f32⟩
  | 111 => ⟨S131072x64, .f32⟩
  | 112 => ⟨S131072x64, .f32⟩
  | 113 => ⟨S64x1024, .f32⟩
  | 114 => ⟨S131072x1024, .f32⟩
  | 115 => ⟨S131072x1024, .f32⟩
  | 116 => ⟨S131072x1024, .f32⟩
  | 117 => ⟨S1024x64, .f32⟩
  | 118 => ⟨S_, .f32⟩
  | 119 => ⟨S1024, .f32⟩
  | 120 => ⟨S1x1024, .f32⟩
  | 121 => ⟨S131072x1024, .f32⟩
  | 122 => ⟨S131072x1024, .f32⟩
  | 123 => ⟨S131072x1024, .i32⟩
  | 124 => ⟨S_, .f32⟩
  | 125 => ⟨S_, .i32⟩
  | 126 => ⟨S131072, .f32⟩
  | 127 => ⟨S131072, .i32⟩
  | _ => ⟨S8x1x512x512, .f32⟩

abbrev hbmTy0_2 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S1, .i32⟩
  | 9 => ⟨S_, .i32⟩
  | 10 => ⟨S131072x1, .i32⟩
  | 11 => ⟨S131072x1, .i1⟩
  | 12 => ⟨S1x1, .i32⟩
  | 13 => ⟨S131072x1, .i32⟩
  | 14 => ⟨S131072x1, .i1⟩
  | 15 => ⟨S131072x1, .i1⟩
  | 16 => ⟨S_, .i1⟩
  | 17 => ⟨S131072, .i1⟩
  | 18 => ⟨S131072x64, .f32⟩
  | 19 => ⟨S131072x64, .i1⟩
  | 20 => ⟨S_, .f32⟩
  | 21 => ⟨S131072x64, .f32⟩
  | 22 => ⟨S131072x64, .f32⟩
  | 23 => ⟨S131072x64, .f32⟩
  | 24 => ⟨S131072x64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S131072x64, .f32⟩
  | 32 => ⟨S131072x64, .f32⟩
  | 33 => ⟨S8x128x128x64, .f32⟩
  | 34 => ⟨S8x64x128x128, .f32⟩
  | 35 => ⟨S_, .f32⟩
  | 36 => ⟨S8x64x259x259, .f32⟩
  | 37 => ⟨S8x64x1x259x259, .f32⟩
  | 38 => ⟨S1x64x32x4x4, .f32⟩
  | 39 => ⟨S_, .f32⟩
  | 40 => ⟨S8x64x32x256x256, .f32⟩
  | 41 => ⟨S1x64x32x1x1, .f32⟩
  | 42 => ⟨S8x64x1x256x256, .f32⟩
  | 43 => ⟨S8x64x32x256x256, .f32⟩
  | 44 => ⟨S8x64x32x256x256, .f32⟩
  | 45 => ⟨S8x64x32x256x256, .f32⟩
  | 46 => ⟨S8x64x32x256x256, .f32⟩
  | 47 => ⟨S1x64x32x1x1, .f32⟩
  | 48 => ⟨S8x64x1x256x256, .f32⟩
  | 49 => ⟨S8x64x32x256x256, .f32⟩
  | 50 => ⟨S8x64x32x256x256, .f32⟩
  | 51 => ⟨S8x64x32x256x256, .f32⟩
  | 52 => ⟨S8x64x32x256x256, .f32⟩
  | 53 => ⟨S1x64x32x1x1, .f32⟩
  | 54 => ⟨S8x64x1x256x256, .f32⟩
  | 55 => ⟨S8x64x32x256x256, .f32⟩
  | 56 => ⟨S8x64x32x256x256, .f32⟩
  | 57 => ⟨S8x64x32x256x256, .f32⟩
  | 58 => ⟨S8x64x32x256x256, .f32⟩
  | 59 => ⟨S1x64x32x1x1, .f32⟩
  | 60 => ⟨S8x64x1x256x256, .f32⟩
  | 61 => ⟨S8x64x32x256x256, .f32⟩
  | 62 => ⟨S8x64x32x256x256, .f32⟩
  | 63 => ⟨S8x64x32x256x256, .f32⟩
  | 64 => ⟨S8x64x32x256x256, .f32⟩
  | 65 => ⟨S1x64x32x1x1, .f32⟩
  | 66 => ⟨S8x64x1x256x256, .f32⟩
  | 67 => ⟨S8x64x32x256x256, .f32⟩
  | 68 => ⟨S8x64x32x256x256, .f32⟩
  | 69 => ⟨S8x64x32x256x256, .f32⟩
  | 70 => ⟨S8x64x32x256x256, .f32⟩
  | 71 => ⟨S1x64x32x1x1, .f32⟩
  | 72 => ⟨S8x64x1x256x256, .f32⟩
  | 73 => ⟨S8x64x32x256x256, .f32⟩
  | 74 => ⟨S8x64x32x256x256, .f32⟩
  | 75 => ⟨S8x64x32x256x256, .f32⟩
  | 76 => ⟨S8x64x32x256x256, .f32⟩
  | 77 => ⟨S1x64x32x1x1, .f32⟩
  | 78 => ⟨S8x64x1x256x256, .f32⟩
  | 79 => ⟨S8x64x32x256x256, .f32⟩
  | 80 => ⟨S8x64x32x256x256, .f32⟩
  | 81 => ⟨S8x64x32x256x256, .f32⟩
  | 82 => ⟨S8x64x32x256x256, .f32⟩
  | 83 => ⟨S1x64x32x1x1, .f32⟩
  | 84 => ⟨S8x64x1x256x256, .f32⟩
  | 85 => ⟨S8x64x32x256x256, .f32⟩
  | 86 => ⟨S8x64x32x256x256, .f32⟩
  | 87 => ⟨S8x64x32x256x256, .f32⟩
  | 88 => ⟨S8x64x32x256x256, .f32⟩
  | 89 => ⟨S1x64x32x1x1, .f32⟩
  | 90 => ⟨S8x64x1x256x256, .f32⟩
  | 91 => ⟨S8x64x32x256x256, .f32⟩
  | 92 => ⟨S8x64x32x256x256, .f32⟩
  | 93 => ⟨S8x64x32x256x256, .f32⟩
  | 94 => ⟨S8x64x32x256x256, .f32⟩
  | 95 => ⟨S1x64x32x1x1, .f32⟩
  | 96 => ⟨S8x64x1x256x256, .f32⟩
  | 97 => ⟨S8x64x32x256x256, .f32⟩
  | 98 => ⟨S8x64x32x256x256, .f32⟩
  | 99 => ⟨S8x64x32x256x256, .f32⟩
  | 100 => ⟨S8x64x32x256x256, .f32⟩
  | 101 => ⟨S1x64x32x1x1, .f32⟩
  | 102 => ⟨S8x64x1x256x256, .f32⟩
  | 103 => ⟨S8x64x32x256x256, .f32⟩
  | 104 => ⟨S8x64x32x256x256, .f32⟩
  | 105 => ⟨S8x64x32x256x256, .f32⟩
  | 106 => ⟨S8x64x32x256x256, .f32⟩
  | 107 => ⟨S1x64x32x1x1, .f32⟩
  | 108 => ⟨S8x64x1x256x256, .f32⟩
  | 109 => ⟨S8x64x32x256x256, .f32⟩
  | 110 => ⟨S8x64x32x256x256, .f32⟩
  | 111 => ⟨S8x64x32x256x256, .f32⟩
  | 112 => ⟨S8x64x32x256x256, .f32⟩
  | 113 => ⟨S1x64x32x1x1, .f32⟩
  | 114 => ⟨S8x64x1x256x256, .f32⟩
  | 115 => ⟨S8x64x32x256x256, .f32⟩
  | 116 => ⟨S8x64x32x256x256, .f32⟩
  | 117 => ⟨S8x64x32x256x256, .f32⟩
  | 118 => ⟨S8x64x32x256x256, .f32⟩
  | 119 => ⟨S1x64x32x1x1, .f32⟩
  | 120 => ⟨S8x64x1x256x256, .f32⟩
  | 121 => ⟨S8x64x32x256x256, .f32⟩
  | 122 => ⟨S8x64x32x256x256, .f32⟩
  | 123 => ⟨S8x64x32x256x256, .f32⟩
  | 124 => ⟨S8x64x32x256x256, .f32⟩
  | 125 => ⟨S1x64x32x1x1, .f32⟩
  | 126 => ⟨S8x64x1x256x256, .f32⟩
  | 127 => ⟨S8x64x32x256x256, .f32⟩
  | _ => ⟨S8x1x512x512, .f32⟩

abbrev hbmTy0_3 (i : Nat) : BufTy := match i % 128 with
  | 0 => ⟨S8x64x32x256x256, .f32⟩
  | 1 => ⟨S8x64x32x256x256, .f32⟩
  | 2 => ⟨S8x64x32x256x256, .f32⟩
  | 3 => ⟨S1x64x32x1x1, .f32⟩
  | 4 => ⟨S8x64x1x256x256, .f32⟩
  | 5 => ⟨S8x64x32x256x256, .f32⟩
  | 6 => ⟨S8x64x32x256x256, .f32⟩
  | 7 => ⟨S8x64x32x256x256, .f32⟩
  | 8 => ⟨S8x64x32x256x256, .f32⟩
  | 9 => ⟨S_, .f32⟩
  | 10 => ⟨S8x32x256x256, .f32⟩
  | 11 => ⟨S1x32x1x1, .f32⟩
  | 12 => ⟨S8x32x256x256, .f32⟩
  | 13 => ⟨S8x32x256x256, .f32⟩
  | 14 => ⟨S_, .f32⟩
  | 15 => ⟨S8x32x256x256, .f32⟩
  | 16 => ⟨S8x32x256x256, .f32⟩
  | 17 => ⟨S_, .f32⟩
  | 18 => ⟨S8x32x515x515, .f32⟩
  | 19 => ⟨S8x32x1x515x515, .f32⟩
  | 20 => ⟨S1x32x1x4x4, .f32⟩
  | 21 => ⟨S_, .f32⟩
  | 22 => ⟨S8x32x1x512x512, .f32⟩
  | 23 => ⟨S1x32x1x1x1, .f32⟩
  | 24 => ⟨S8x32x1x512x512, .f32⟩
  | 25 => ⟨S8x32x1x512x512, .f32⟩
  | 26 => ⟨S8x32x1x512x512, .f32⟩
  | 27 => ⟨S8x32x1x512x512, .f32⟩
  | 28 => ⟨S1x32x1x1x1, .f32⟩
  | 29 => ⟨S8x32x1x512x512, .f32⟩
  | 30 => ⟨S8x32x1x512x512, .f32⟩
  | 31 => ⟨S8x32x1x512x512, .f32⟩
  | 32 => ⟨S8x32x1x512x512, .f32⟩
  | 33 => ⟨S1x32x1x1x1, .f32⟩
  | 34 => ⟨S8x32x1x512x512, .f32⟩
  | 35 => ⟨S8x32x1x512x512, .f32⟩
  | 36 => ⟨S8x32x1x512x512, .f32⟩
  | 37 => ⟨S8x32x1x512x512, .f32⟩
  | 38 => ⟨S1x32x1x1x1, .f32⟩
  | 39 => ⟨S8x32x1x512x512, .f32⟩
  | 40 => ⟨S8x32x1x512x512, .f32⟩
  | 41 => ⟨S8x32x1x512x512, .f32⟩
  | 42 => ⟨S8x32x1x512x512, .f32⟩
  | 43 => ⟨S1x32x1x1x1, .f32⟩
  | 44 => ⟨S8x32x1x512x512, .f32⟩
  | 45 => ⟨S8x32x1x512x512, .f32⟩
  | 46 => ⟨S8x32x1x512x512, .f32⟩
  | 47 => ⟨S8x32x1x512x512, .f32⟩
  | 48 => ⟨S1x32x1x1x1, .f32⟩
  | 49 => ⟨S8x32x1x512x512, .f32⟩
  | 50 => ⟨S8x32x1x512x512, .f32⟩
  | 51 => ⟨S8x32x1x512x512, .f32⟩
  | 52 => ⟨S8x32x1x512x512, .f32⟩
  | 53 => ⟨S1x32x1x1x1, .f32⟩
  | 54 => ⟨S8x32x1x512x512, .f32⟩
  | 55 => ⟨S8x32x1x512x512, .f32⟩
  | 56 => ⟨S8x32x1x512x512, .f32⟩
  | 57 => ⟨S8x32x1x512x512, .f32⟩
  | 58 => ⟨S1x32x1x1x1, .f32⟩
  | 59 => ⟨S8x32x1x512x512, .f32⟩
  | 60 => ⟨S8x32x1x512x512, .f32⟩
  | 61 => ⟨S8x32x1x512x512, .f32⟩
  | 62 => ⟨S8x32x1x512x512, .f32⟩
  | 63 => ⟨S1x32x1x1x1, .f32⟩
  | 64 => ⟨S8x32x1x512x512, .f32⟩
  | 65 => ⟨S8x32x1x512x512, .f32⟩
  | 66 => ⟨S8x32x1x512x512, .f32⟩
  | 67 => ⟨S8x32x1x512x512, .f32⟩
  | 68 => ⟨S1x32x1x1x1, .f32⟩
  | 69 => ⟨S8x32x1x512x512, .f32⟩
  | 70 => ⟨S8x32x1x512x512, .f32⟩
  | 71 => ⟨S8x32x1x512x512, .f32⟩
  | 72 => ⟨S8x32x1x512x512, .f32⟩
  | 73 => ⟨S1x32x1x1x1, .f32⟩
  | 74 => ⟨S8x32x1x512x512, .f32⟩
  | 75 => ⟨S8x32x1x512x512, .f32⟩
  | 76 => ⟨S8x32x1x512x512, .f32⟩
  | 77 => ⟨S8x32x1x512x512, .f32⟩
  | 78 => ⟨S1x32x1x1x1, .f32⟩
  | 79 => ⟨S8x32x1x512x512, .f32⟩
  | 80 => ⟨S8x32x1x512x512, .f32⟩
  | 81 => ⟨S8x32x1x512x512, .f32⟩
  | 82 => ⟨S8x32x1x512x512, .f32⟩
  | 83 => ⟨S1x32x1x1x1, .f32⟩
  | 84 => ⟨S8x32x1x512x512, .f32⟩
  | 85 => ⟨S8x32x1x512x512, .f32⟩
  | 86 => ⟨S8x32x1x512x512, .f32⟩
  | 87 => ⟨S8x32x1x512x512, .f32⟩
  | 88 => ⟨S1x32x1x1x1, .f32⟩
  | 89 => ⟨S8x32x1x512x512, .f32⟩
  | 90 => ⟨S8x32x1x512x512, .f32⟩
  | 91 => ⟨S8x32x1x512x512, .f32⟩
  | 92 => ⟨S8x32x1x512x512, .f32⟩
  | 93 => ⟨S1x32x1x1x1, .f32⟩
  | 94 => ⟨S8x32x1x512x512, .f32⟩
  | 95 => ⟨S8x32x1x512x512, .f32⟩
  | 96 => ⟨S8x32x1x512x512, .f32⟩
  | 97 => ⟨S8x32x1x512x512, .f32⟩
  | 98 => ⟨S1x32x1x1x1, .f32⟩
  | 99 => ⟨S8x32x1x512x512, .f32⟩
  | 100 => ⟨S8x32x1x512x512, .f32⟩
  | 101 => ⟨S8x32x1x512x512, .f32⟩
  | 102 => ⟨S8x32x1x512x512, .f32⟩
  | 103 => ⟨S_, .f32⟩
  | 104 => ⟨S8x1x512x512, .f32⟩
  | 105 => ⟨S1x1x1x1, .f32⟩
  | 106 => ⟨S8x1x512x512, .f32⟩
  | 107 => ⟨S8x1x512x512, .f32⟩
  | 108 => ⟨S8x1x512x512, .f32⟩
  | 109 => ⟨S8x1x512x512, .f32⟩
  | 110 => ⟨S_, .f32⟩
  | 111 => ⟨S8x1x512x512, .f32⟩
  | 112 => ⟨S8x1x512x512, .f32⟩
  | 113 => ⟨S_, .f32⟩
  | 114 => ⟨S8x1x512x512, .f32⟩
  | 115 => ⟨S8x1x512x512, .f32⟩
  | _ => ⟨S8x1x512x512, .f32⟩

abbrev hbmTy (i : Nat) : BufTy := match i / 128 with
  | 0 => hbmTy0_0 i
  | 1 => hbmTy0_1 i
  | 2 => hbmTy0_2 i
  | 3 => hbmTy0_3 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_0 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_1 : Ref sig .tc := ⟨.hbm, 118, rfl⟩
abbrev main_v104 : Ref sig .tc := ⟨.hbm, 119, rfl⟩
abbrev main_v105 : Ref sig .tc := ⟨.hbm, 120, rfl⟩
abbrev main_c_2 : Ref sig .tc := ⟨.hbm, 121, rfl⟩
abbrev main_call1_v0 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_3 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_cst_4 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_cst_5 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_cst_6 : Ref sig .tc := ⟨.hbm, 235, rfl⟩
abbrev main_v215 : Ref sig .tc := ⟨.hbm, 236, rfl⟩
abbrev main_v216 : Ref sig .tc := ⟨.hbm, 237, rfl⟩
abbrev main_cst_7 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_cst_8 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_call2_v0 : Ref sig .tc := ⟨.hbm, 251, rfl⟩
abbrev main_call2_cst : Ref sig .tc := ⟨.hbm, 252, rfl⟩
abbrev main_call2_c : Ref sig .tc := ⟨.hbm, 253, rfl⟩
abbrev main_call2_v1_0 : Ref sig .tc := ⟨.hbm, 254, rfl⟩
abbrev main_v228 : Ref sig .tc := ⟨.hbm, 255, rfl⟩
abbrev main_call3_c : Ref sig .tc := ⟨.hbm, 256, rfl⟩
abbrev main_call3_v0 : Ref sig .tc := ⟨.hbm, 257, rfl⟩
abbrev main_call3_v1 : Ref sig .tc := ⟨.hbm, 258, rfl⟩
abbrev main_call3_c_0 : Ref sig .tc := ⟨.hbm, 259, rfl⟩
abbrev main_call3_v2 : Ref sig .tc := ⟨.hbm, 260, rfl⟩
abbrev main_call3_v3 : Ref sig .tc := ⟨.hbm, 261, rfl⟩
abbrev main_call3_v4 : Ref sig .tc := ⟨.hbm, 262, rfl⟩
abbrev main_call3_v5 : Ref sig .tc := ⟨.hbm, 263, rfl⟩
abbrev main_call3_c_1 : Ref sig .tc := ⟨.hbm, 264, rfl⟩
abbrev main_call3_c_2 : Ref sig .tc := ⟨.hbm, 265, rfl⟩
abbrev main_call3_v6 : Ref sig .tc := ⟨.hbm, 266, rfl⟩
abbrev main_call3_v7 : Ref sig .tc := ⟨.hbm, 267, rfl⟩
abbrev main_call3_v8 : Ref sig .tc := ⟨.hbm, 268, rfl⟩
abbrev main_call3_v9 : Ref sig .tc := ⟨.hbm, 269, rfl⟩
abbrev main_call3_v10 : Ref sig .tc := ⟨.hbm, 270, rfl⟩
abbrev main_call3_v11 : Ref sig .tc := ⟨.hbm, 271, rfl⟩
abbrev main_call3_c_3 : Ref sig .tc := ⟨.hbm, 272, rfl⟩
abbrev main_call3_v12 : Ref sig .tc := ⟨.hbm, 273, rfl⟩
abbrev main_call3_v13 : Ref sig .tc := ⟨.hbm, 274, rfl⟩
abbrev main_call3_v14 : Ref sig .tc := ⟨.hbm, 275, rfl⟩
abbrev main_call3_cst : Ref sig .tc := ⟨.hbm, 276, rfl⟩
abbrev main_call3_v15 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_cst_9 : Ref sig .tc := ⟨.hbm, 281, rfl⟩
abbrev main_v232 : Ref sig .tc := ⟨.hbm, 282, rfl⟩
abbrev main_cst_10 : Ref sig .tc := ⟨.hbm, 283, rfl⟩
abbrev main_v233 : Ref sig .tc := ⟨.hbm, 284, rfl⟩
abbrev main_cst_11 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_cst_12 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_cst_13 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_cst_14 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_cst_15 : Ref sig .tc := ⟨.hbm, 398, rfl⟩
abbrev main_v343 : Ref sig .tc := ⟨.hbm, 399, rfl⟩
abbrev main_v344 : Ref sig .tc := ⟨.hbm, 400, rfl⟩
abbrev main_cst_16 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_cst_17 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_v373 : Ref sig .tc := ⟨.hbm, 431, rfl⟩
abbrev main_v374 : Ref sig .tc := ⟨.hbm, 432, rfl⟩
abbrev main_v375 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_v379 : Ref sig .tc := ⟨.hbm, 437, rfl⟩
abbrev main_v380 : Ref sig .tc := ⟨.hbm, 438, rfl⟩
abbrev main_v381 : Ref sig .tc := ⟨.hbm, 439, rfl⟩
abbrev main_v382 : Ref sig .tc := ⟨.hbm, 440, rfl⟩
abbrev main_v383 : Ref sig .tc := ⟨.hbm, 441, rfl⟩
abbrev main_v384 : Ref sig .tc := ⟨.hbm, 442, rfl⟩
abbrev main_v385 : Ref sig .tc := ⟨.hbm, 443, rfl⟩
abbrev main_v386 : Ref sig .tc := ⟨.hbm, 444, rfl⟩
abbrev main_v387 : Ref sig .tc := ⟨.hbm, 445, rfl⟩
abbrev main_v388 : Ref sig .tc := ⟨.hbm, 446, rfl⟩
abbrev main_v389 : Ref sig .tc := ⟨.hbm, 447, rfl⟩
abbrev main_v390 : Ref sig .tc := ⟨.hbm, 448, rfl⟩
abbrev main_v391 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_v395 : Ref sig .tc := ⟨.hbm, 453, rfl⟩
abbrev main_v396 : Ref sig .tc := ⟨.hbm, 454, rfl⟩
abbrev main_v397 : Ref sig .tc := ⟨.hbm, 455, rfl⟩
abbrev main_v398 : Ref sig .tc := ⟨.hbm, 456, rfl⟩
abbrev main_v399 : Ref sig .tc := ⟨.hbm, 457, rfl⟩
abbrev main_v400 : Ref sig .tc := ⟨.hbm, 458, rfl⟩
abbrev main_v401 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_v405 : Ref sig .tc := ⟨.hbm, 463, rfl⟩
abbrev main_v406 : Ref sig .tc := ⟨.hbm, 464, rfl⟩
abbrev main_v407 : Ref sig .tc := ⟨.hbm, 465, rfl⟩
abbrev main_v408 : Ref sig .tc := ⟨.hbm, 466, rfl⟩
abbrev main_v409 : Ref sig .tc := ⟨.hbm, 467, rfl⟩
abbrev main_v410 : Ref sig .tc := ⟨.hbm, 468, rfl⟩
abbrev main_v411 : Ref sig .tc := ⟨.hbm, 469, rfl⟩
abbrev main_v412 : Ref sig .tc := ⟨.hbm, 470, rfl⟩
abbrev main_v413 : Ref sig .tc := ⟨.hbm, 471, rfl⟩
abbrev main_v414 : Ref sig .tc := ⟨.hbm, 472, rfl⟩
abbrev main_v415 : Ref sig .tc := ⟨.hbm, 473, rfl⟩
abbrev main_v416 : Ref sig .tc := ⟨.hbm, 474, rfl⟩
abbrev main_v417 : Ref sig .tc := ⟨.hbm, 475, rfl⟩
abbrev main_v418 : Ref sig .tc := ⟨.hbm, 476, rfl⟩
abbrev main_v419 : Ref sig .tc := ⟨.hbm, 477, rfl⟩
abbrev main_v420 : Ref sig .tc := ⟨.hbm, 478, rfl⟩
abbrev main_v421 : Ref sig .tc := ⟨.hbm, 479, rfl⟩
abbrev main_v422 : Ref sig .tc := ⟨.hbm, 480, rfl⟩
abbrev main_v423 : Ref sig .tc := ⟨.hbm, 481, rfl⟩
abbrev main_v424 : Ref sig .tc := ⟨.hbm, 482, rfl⟩
abbrev main_v425 : Ref sig .tc := ⟨.hbm, 483, rfl⟩
abbrev main_v426 : Ref sig .tc := ⟨.hbm, 484, rfl⟩
abbrev main_v427 : Ref sig .tc := ⟨.hbm, 485, rfl⟩
abbrev main_v428 : Ref sig .tc := ⟨.hbm, 486, rfl⟩
abbrev main_cst_18 : Ref sig .tc := ⟨.hbm, 487, rfl⟩
abbrev main_v429 : Ref sig .tc := ⟨.hbm, 488, rfl⟩
abbrev main_v430 : Ref sig .tc := ⟨.hbm, 489, rfl⟩
abbrev main_v431 : Ref sig .tc := ⟨.hbm, 490, rfl⟩
abbrev main_v432 : Ref sig .tc := ⟨.hbm, 491, rfl⟩
abbrev main_v433 : Ref sig .tc := ⟨.hbm, 492, rfl⟩
abbrev main_v434 : Ref sig .tc := ⟨.hbm, 493, rfl⟩
abbrev main_cst_19 : Ref sig .tc := ⟨.hbm, 494, rfl⟩
abbrev main_v435 : Ref sig .tc := ⟨.hbm, 495, rfl⟩
abbrev main_v436 : Ref sig .tc := ⟨.hbm, 496, rfl⟩
abbrev main_cst_20 : Ref sig .tc := ⟨.hbm, 497, rfl⟩
abbrev main_v437 : Ref sig .tc := ⟨.hbm, 498, rfl⟩
abbrev main_v438 : Ref sig .tc := ⟨.hbm, 499, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.RunHlo
public import Idealize.ShloMosaic.Lib.Pipeline.Frame
public import Idealize.ShloMosaic.PureOps.Ideal
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

theorem IsSeq.append {p k : Prog (TpuEff nD τ sig (Elt Ideal) (Pipeline.Sig Λ₀ (Fin 0) fun p => (pcfgs (F := Ideal) p).Adm) .tc) PUnit}
    {a b : List (HloOp τ sig (Elt Ideal))} (hp : IsSeq p a) (hk : IsSeq k b) :
    IsSeq (p >>= fun _ => k) (a ++ b) := by
  unfold IsSeq at *
  rw [hp, hk, seq_append]

theorem IsSeq.last (op : HloOp τ sig (Elt Ideal)) :
    IsSeq (nD := nD) (Λ := Pipeline.Sig Λ₀ (Fin 0) fun p => (pcfgs (F := Ideal) p).Adm) (hlo rfl op fun _ => .ret (⟨⟩ : PUnit)) [op] := rfl

/-- A window of the reference: its operations in order, with the proof that it runs exactly these. -/
abbrev Window (p : Dev nD → Prog (TpuEff nD τ sig (Elt Ideal) (Pipeline.Sig Λ₀ (Fin 0) fun p => (pcfgs (F := Ideal) p).Adm) .tc) PUnit) : Type _ :=
  {ops : List (HloOp τ sig (Elt Ideal)) // ∀ c, IsSeq (p c) ops}

/-- The operations of the reference's window 0. -/
noncomputable def P0 : Window (main_part0 (F := Ideal)) := by
  apply Subtype.mk
  intro c
  unfold main_part0
  repeat'
    first
    | apply IsSeq.cons
    | apply IsSeq.append
    | exact IsSeq.last _
    | exact IsSeq.nil
    | unfold fn_pad.body

/-- The operations of the reference's window 1. -/
noncomputable def P1 : Window (main_part1 (F := Ideal)) := by
  apply Subtype.mk
  intro c
  unfold main_part1
  repeat'
    first
    | apply IsSeq.cons
    | apply IsSeq.append
    | exact IsSeq.last _
    | exact IsSeq.nil
    | unfold fn_pad_0.body

/-- The operations of the reference's window 2. -/
noncomputable def P2 : Window (main_part2 (F := Ideal)) := by
  apply Subtype.mk
  intro c
  unfold main_part2
  repeat'
    first
    | apply IsSeq.cons
    | apply IsSeq.append
    | exact IsSeq.last _
    | exact IsSeq.nil

/-- The operations of the reference's window 3. -/
noncomputable def P3 : Window (main_part3 (F := Ideal)) := by
  apply Subtype.mk
  intro c
  unfold main_part3
  repeat'
    first
    | apply IsSeq.cons
    | apply IsSeq.append
    | exact IsSeq.last _
    | exact IsSeq.nil
    | unfold fn_argmin.body

/-- The operations of the reference's window 4. -/
noncomputable def P4 : Window (main_part4 (F := Ideal)) := by
  apply Subtype.mk
  intro c
  unfold main_part4
  repeat'
    first
    | apply IsSeq.cons
    | apply IsSeq.append
    | exact IsSeq.last _
    | exact IsSeq.nil
    | unfold fn_take.body
    | unfold fn_where.body

/-- The operations of the reference's window 5. -/
noncomputable def P5 : Window (main_part5 (F := Ideal)) := by
  apply Subtype.mk
  intro c
  unfold main_part5
  repeat'
    first
    | apply IsSeq.cons
    | apply IsSeq.append
    | exact IsSeq.last _
    | exact IsSeq.nil

/-- The operations of the reference's window 6. -/
noncomputable def P6 : Window (main_part6 (F := Ideal)) := by
  apply Subtype.mk
  intro c
  unfold main_part6
  repeat'
    first
    | apply IsSeq.cons
    | apply IsSeq.append
    | exact IsSeq.last _
    | exact IsSeq.nil

/-- The operations of the reference's window 7. -/
noncomputable def P7 : Window (main_part7 (F := Ideal)) := by
  apply Subtype.mk
  intro c
  unfold main_part7
  repeat'
    first
    | apply IsSeq.cons
    | apply IsSeq.append
    | exact IsSeq.last _
    | exact IsSeq.nil

/-- A list of operations cut in two. -/
abbrev Cut (l a b : List (HloOp τ sig (Elt Ideal))) : Prop := l = a ++ b

theorem Cut.here (l : List (HloOp τ sig (Elt Ideal))) : Cut l [] l := rfl

theorem Cut.later {op : HloOp τ sig (Elt Ideal)} {l a b : List (HloOp τ sig (Elt Ideal))} (h : Cut l a b) :
    Cut (op :: l) (op :: a) b := congrArg (op :: ·) h

/-- The two halves of a cut list. -/
abbrev Halves (l : List (HloOp τ sig (Elt Ideal))) : Type _ :=
  {p : List (HloOp τ sig (Elt Ideal)) × List (HloOp τ sig (Elt Ideal)) // Cut l p.1 p.2}

theorem Halves.intro {l a b : List (HloOp τ sig (Elt Ideal))} (h : Cut l a b) : Cut l (a, b).1 (a, b).2 := h

/-- Window 0, cut after the padding of the image. -/
noncomputable def H0 : Halves P0.1 := by
  apply Subtype.mk
  apply Halves.intro
  iterate 3 apply Cut.later
  exact Cut.here _

/-- Window 1, cut after the first layer. -/
noncomputable def H1 : Halves P1.1 := by
  apply Subtype.mk
  apply Halves.intro
  iterate 50 apply Cut.later
  exact Cut.here _

/-- The rest of window 1, cut after the padding of the first layer. -/
noncomputable def H1r : Halves H1.1.2 := by
  apply Subtype.mk
  apply Halves.intro
  iterate 3 apply Cut.later
  exact Cut.here _

/-- Window 3, cut after the second layer. -/
noncomputable def H3 : Halves P3.1 := by
  apply Subtype.mk
  apply Halves.intro
  iterate 40 apply Cut.later
  exact Cut.here _

/-- The rest of window 3, cut after the distances. -/
noncomputable def H3r : Halves H3.1.2 := by
  apply Subtype.mk
  apply Halves.intro
  iterate 19 apply Cut.later
  exact Cut.here _

/-- Window 4, cut after the quantised latents. -/
noncomputable def H4 : Halves P4.1 := by
  apply Subtype.mk
  apply Halves.intro
  iterate 35 apply Cut.later
  exact Cut.here _

/-- The rest of window 4, cut after the dilation of the latents. -/
noncomputable def H4r : Halves H4.1.2 := by
  apply Subtype.mk
  apply Halves.intro
  iterate 2 apply Cut.later
  exact Cut.here _

/-- Window 6, cut after the third layer. -/
noncomputable def H6 : Halves P6.1 := by
  apply Subtype.mk
  apply Halves.intro
  iterate 3 apply Cut.later
  exact Cut.here _

/-- The rest of window 6, cut after the dilation of the third layer. -/
noncomputable def H6r : Halves H6.1.2 := by
  apply Subtype.mk
  apply Halves.intro
  iterate 2 apply Cut.later
  exact Cut.here _

/-- Stage: the padding of the image. -/
noncomputable def opsA0 : List (HloOp τ sig (Elt Ideal)) := H0.1.1

/-- Stage: the first layer. -/
noncomputable def opsA : List (HloOp τ sig (Elt Ideal)) := H0.1.2 ++ H1.1.1

/-- Stage: the padding of the first layer. -/
noncomputable def opsB0 : List (HloOp τ sig (Elt Ideal)) := H1r.1.1

/-- Stage: the second layer. -/
noncomputable def opsB : List (HloOp τ sig (Elt Ideal)) := H1r.1.2 ++ (P2.1 ++ H3.1.1)

/-- Stage: the distances to the codebook. -/
noncomputable def opsC1 : List (HloOp τ sig (Elt Ideal)) := H3r.1.1

/-- Stage: the nearest entries, the loss and the quantised latents. -/
noncomputable def opsC2 : List (HloOp τ sig (Elt Ideal)) := H3r.1.2 ++ H4.1.1

/-- Stage: the dilation of the latents. -/
noncomputable def opsD0 : List (HloOp τ sig (Elt Ideal)) := H4r.1.1

/-- Stage: the third layer. -/
noncomputable def opsD : List (HloOp τ sig (Elt Ideal)) := H4r.1.2 ++ (P5.1 ++ H6.1.1)

/-- Stage: the dilation of the third layer. -/
noncomputable def opsE0 : List (HloOp τ sig (Elt Ideal)) := H6r.1.1

/-- Stage: the last layer. -/
noncomputable def opsE : List (HloOp τ sig (Elt Ideal)) := H6r.1.2 ++ P7.1

end Cert.ReferenceIdeal.Value
-- ==== Proof.RefLines.lean ====
module

public import proofs.«01_k».proof.Proof.RefOps

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- What is known of one operation: the one reference it writes, that it determines its result, and that it
    stays within the TensorCore's buffers. -/
structure Line (op : HloOp τ sig (Elt Ideal)) (w : Ref sig .tc) : Prop where
  writes : op.writes = {Proc.devRef (τ := τ) .tc w}
  fresh : op.fresh = ∅
  sub : op.bufs ⊆ tcRefs τ sig

/-- The same of each operation of a list. -/
structure Lines (l : List (HloOp τ sig (Elt Ideal))) (W : List (Ref sig .tc)) : Prop where
  writes : l.map HloOp.writes = W.map fun w => {Proc.devRef (τ := τ) .tc w}
  fresh : ∀ op ∈ l, op.fresh = ∅
  sub : l.Forall fun op => op.bufs ⊆ tcRefs τ sig

theorem Lines.none : Lines [] [] := ⟨rfl, nofun, trivial⟩

theorem Lines.one {op : HloOp τ sig (Elt Ideal)} {w : Ref sig .tc} {l : List (HloOp τ sig (Elt Ideal))} {W : List (Ref sig .tc)}
    (h : Line op w) (hl : Lines l W) : Lines (op :: l) (w :: W) :=
  ⟨by rw [List.map_cons, List.map_cons, h.writes, hl.writes],
    List.forall_mem_cons.mpr ⟨h.fresh, hl.fresh⟩, (List.forall_cons _ _ _).mpr ⟨h.sub, hl.sub⟩⟩

theorem line_nullary (y : Ref sig .tc) (v : y.ty.Contents (Elt Ideal)) (hy) : Line (nullary (τ := τ) y v hy) y := ⟨rfl, rfl, nullary_bufs_sub ..⟩

theorem line_unary (x y : Ref sig .tc) (f : x.ty.Contents (Elt Ideal) → y.ty.Contents (Elt Ideal)) (hx hy) :
    Line (unary (τ := τ) x y f hx hy) y := ⟨rfl, rfl, unary_bufs_sub ..⟩

theorem line_binary (a b y : Ref sig .tc) (f : a.ty.Contents (Elt Ideal) → b.ty.Contents (Elt Ideal) → y.ty.Contents (Elt Ideal)) (ha hb hy) :
    Line (binary (τ := τ) a b y f ha hb hy) y := ⟨rfl, rfl, binary_bufs_sub ..⟩

theorem line_ternary (c a b y : Ref sig .tc)
    (f : c.ty.Contents (Elt Ideal) → a.ty.Contents (Elt Ideal) → b.ty.Contents (Elt Ideal) → y.ty.Contents (Elt Ideal)) (hc ha hb hy) :
    Line (ternary (τ := τ) c a b y f hc ha hb hy) y := ⟨rfl, rfl, ternary_bufs_sub ..⟩

theorem line_quaternary (a b c e y : Ref sig .tc)
    (f : a.ty.Contents (Elt Ideal) → b.ty.Contents (Elt Ideal) → c.ty.Contents (Elt Ideal) → e.ty.Contents (Elt Ideal) → y.ty.Contents (Elt Ideal))
    (ha hb hc he hy) : Line (quaternary (τ := τ) a b c e y f ha hb hc he hy) y := ⟨rfl, rfl, quaternary_bufs_sub ..⟩

theorem line_reshape (x y : Ref sig .tc) (he hn hx hy) : Line (reshape (τ := τ) (Val := Elt Ideal) x y he hn hx hy) y :=
  ⟨rfl, rfl, reshape_bufs_sub ..⟩

/-- The references that a list of operations writes. -/
abbrev Written (l : List (HloOp τ sig (Elt Ideal))) : Type _ := {W : List (Ref sig .tc) // Lines l W}

/-- What the stage writes. -/
noncomputable def wrA0 : Written opsA0 := by
  apply Subtype.mk
  unfold opsA0
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrA : Written opsA := by
  apply Subtype.mk
  unfold opsA
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrB0 : Written opsB0 := by
  apply Subtype.mk
  unfold opsB0
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrB : Written opsB := by
  apply Subtype.mk
  unfold opsB
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrC1 : Written opsC1 := by
  apply Subtype.mk
  unfold opsC1
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrC2 : Written opsC2 := by
  apply Subtype.mk
  unfold opsC2
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrD0 : Written opsD0 := by
  apply Subtype.mk
  unfold opsD0
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrD : Written opsD := by
  apply Subtype.mk
  unfold opsD
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrE0 : Written opsE0 := by
  apply Subtype.mk
  unfold opsE0
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

/-- What the stage writes. -/
noncomputable def wrE : Written opsE := by
  apply Subtype.mk
  unfold opsE
  repeat'
    first
    | with_reducible exact line_unary ..
    | with_reducible exact line_binary ..
    | with_reducible exact line_nullary ..
    | with_reducible exact line_reshape ..
    | with_reducible exact line_ternary ..
    | with_reducible exact line_quaternary ..
    | apply Lines.one
    | exact Lines.none

end Cert.ReferenceIdeal.Value
-- ==== Proof.RefRun.lean ====
module

public import proofs.«01_k».proof.Proof.RefLines
public import Idealize.ShloMosaic.Lib.Quiescent

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- All operations of the reference, stage after stage. -/
noncomputable def opsAll : List (HloOp τ sig (Elt Ideal)) :=
  opsA0 ++ (opsA ++ (opsB0 ++ (opsB ++ (opsC1 ++ (opsC2 ++ (opsD0 ++ (opsD ++ (opsE0 ++ (opsE)))))))))

theorem opsAll_eq : opsAll = P0.1 ++ (P1.1 ++ (P2.1 ++ (P3.1 ++ (P4.1 ++ (P5.1 ++ (P6.1 ++ P7.1)))))) := by
  rw [H0.2, H1.2, H1r.2, H3.2, H3r.2, H4.2, H4r.2, H6.2, H6r.2]
  simp only [opsAll, opsA0, opsA, opsB0, opsB, opsC1, opsC2, opsD0, opsD, opsE0, opsE, List.append_assoc]

/-- The reference runs exactly these operations. -/
theorem main_isSeq (c : Dev nD) : IsSeq (main (F := Ideal) c) opsAll := by
  rw [opsAll_eq]
  exact IsSeq.append (P0.2 c) <| IsSeq.append (P1.2 c) <| IsSeq.append (P2.2 c) <| IsSeq.append (P3.2 c) <|
    IsSeq.append (P4.2 c) <| IsSeq.append (P5.2 c) <| IsSeq.append (P6.2 c) (P7.2 c)

theorem Lines.append {a b : List (HloOp τ sig (Elt Ideal))} {V W : List (Ref sig .tc)} (ha : Lines a V) (hb : Lines b W) :
    Lines (a ++ b) (V ++ W) :=
  ⟨by rw [List.map_append, List.map_append, ha.writes, hb.writes],
    fun op h => (List.mem_append.mp h).elim (ha.fresh op) (hb.fresh op),
    List.forall_append.mpr ⟨ha.sub, hb.sub⟩⟩

theorem linesAll : ∃ W, Lines opsAll W :=
  ⟨_, wrA0.2.append <| wrA.2.append <| wrB0.2.append <| wrB.2.append <| wrC1.2.append <| wrC2.2.append <| wrD0.2.append <| wrD.2.append <| wrE0.2.append wrE.2⟩

/-- A list of operations leaves alone what it does not write. -/
theorem Lines.keep {l : List (HloOp τ sig (Elt Ideal))} {W : List (Ref sig .tc)} (h : Lines l W) (V : Valuation τ sig (Elt Ideal))
    {r : Ref sig .tc} (hr : r ∉ W) : after l V (Proc.devRef .tc r) = V (Proc.devRef .tc r) :=
  after_of_writes_sub l V (forall_writes_sub_of_map h.writes) hr

theorem scopedRefs_eq : (Finset.univ.filter fun b : Ref sig .tc => b.isScoped) = ∅ := by decide

theorem scopedSems_eq : (Finset.univ.filter fun sm : SemLoc sig => sm.isScoped .tc) = ∅ := by decide

/-- The reference terminates with every buffer at what its operations leave there. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after opsAll (launchContents m d) (Proc.devRef .tc b) :=
  let ⟨_, hW⟩ := linesAll
  run_hlo (defs (F := Ideal)) main main_isSeq scopedRefs_eq scopedSems_eq hW.sub hW.fresh m ρ

/-- The buffers after the stage A0. -/
noncomputable def valA0 (V : Valuation τ sig (Elt Ideal)) : Valuation τ sig (Elt Ideal) := after opsA0 V

/-- The buffers after the stage A. -/
noncomputable def valA (V : Valuation τ sig (Elt Ideal)) : Valuation τ sig (Elt Ideal) := after opsA (valA0 V)

/-- The buffers after the stage B0. -/
noncomputable def valB0 (V : Valuation τ sig (Elt Ideal)) : Valuation τ sig (Elt Ideal) := after opsB0 (valA V)

/-- The buffers after the stage B. -/
noncomputable def valB (V : Valuation τ sig (Elt Ideal)) : Valuation τ sig (Elt Ideal) := after opsB (valB0 V)

/-- The buffers after the stage C1. -/
noncomputable def valC1 (V : Valuation τ sig (Elt Ideal)) : Valuation τ sig (Elt Ideal) := after opsC1 (valB V)

/-- The buffers after the stage C2. -/
noncomputable def valC2 (V : Valuation τ sig (Elt Ideal)) : Valuation τ sig (Elt Ideal) := after opsC2 (valC1 V)

/-- The buffers after the stage D0. -/
noncomputable def valD0 (V : Valuation τ sig (Elt Ideal)) : Valuation τ sig (Elt Ideal) := after opsD0 (valC2 V)

/-- The buffers after the stage D. -/
noncomputable def valD (V : Valuation τ sig (Elt Ideal)) : Valuation τ sig (Elt Ideal) := after opsD (valD0 V)

/-- The buffers after the stage E0. -/
noncomputable def valE0 (V : Valuation τ sig (Elt Ideal)) : Valuation τ sig (Elt Ideal) := after opsE0 (valD V)

/-- The buffers after the stage E. -/
noncomputable def valE (V : Valuation τ sig (Elt Ideal)) : Valuation τ sig (Elt Ideal) := after opsE (valE0 V)

theorem after_opsAll (V : Valuation τ sig (Elt Ideal)) : after opsAll V = valE V := by
  simp only [opsAll, after_append]
  rfl

theorem valA0_keep (V : Valuation τ sig (Elt Ideal)) {r : Ref sig .tc} (h : r ∉ wrA0.1) :
    valA0 V (Proc.devRef .tc r) = V (Proc.devRef .tc r) := wrA0.2.keep _ h

theorem valA_keep (V : Valuation τ sig (Elt Ideal)) {r : Ref sig .tc} (h : r ∉ wrA.1) :
    valA V (Proc.devRef .tc r) = (valA0 V) (Proc.devRef .tc r) := wrA.2.keep _ h

theorem valB0_keep (V : Valuation τ sig (Elt Ideal)) {r : Ref sig .tc} (h : r ∉ wrB0.1) :
    valB0 V (Proc.devRef .tc r) = (valA V) (Proc.devRef .tc r) := wrB0.2.keep _ h

theorem valB_keep (V : Valuation τ sig (Elt Ideal)) {r : Ref sig .tc} (h : r ∉ wrB.1) :
    valB V (Proc.devRef .tc r) = (valB0 V) (Proc.devRef .tc r) := wrB.2.keep _ h

theorem valC1_keep (V : Valuation τ sig (Elt Ideal)) {r : Ref sig .tc} (h : r ∉ wrC1.1) :
    valC1 V (Proc.devRef .tc r) = (valB V) (Proc.devRef .tc r) := wrC1.2.keep _ h

theorem valC2_keep (V : Valuation τ sig (Elt Ideal)) {r : Ref sig .tc} (h : r ∉ wrC2.1) :
    valC2 V (Proc.devRef .tc r) = (valC1 V) (Proc.devRef .tc r) := wrC2.2.keep _ h

theorem valD0_keep (V : Valuation τ sig (Elt Ideal)) {r : Ref sig .tc} (h : r ∉ wrD0.1) :
    valD0 V (Proc.devRef .tc r) = (valC2 V) (Proc.devRef .tc r) := wrD0.2.keep _ h

theorem valD_keep (V : Valuation τ sig (Elt Ideal)) {r : Ref sig .tc} (h : r ∉ wrD.1) :
    valD V (Proc.devRef .tc r) = (valD0 V) (Proc.devRef .tc r) := wrD.2.keep _ h

theorem valE0_keep (V : Valuation τ sig (Elt Ideal)) {r : Ref sig .tc} (h : r ∉ wrE0.1) :
    valE0 V (Proc.devRef .tc r) = (valD V) (Proc.devRef .tc r) := wrE0.2.keep _ h

theorem valE_keep (V : Valuation τ sig (Elt Ideal)) {r : Ref sig .tc} (h : r ∉ wrE.1) :
    valE V (Proc.devRef .tc r) = (valE0 V) (Proc.devRef .tc r) := wrE.2.keep _ h

/-- An argument: one of the first ten buffers. -/
theorem args_unwritten : ∀ r ∈ [main_arg0, main_arg1, main_arg2, main_arg3, main_arg4, main_arg5, main_arg6, main_arg7, main_arg8, main_arg9],
    r ∉ wrA0.1 ∧ r ∉ wrA.1 ∧ r ∉ wrB0.1 ∧ r ∉ wrB.1 ∧ r ∉ wrC1.1 ∧ r ∉ wrC2.1 ∧ r ∉ wrD0.1 ∧ r ∉ wrD.1 ∧ r ∉ wrE0.1 ∧ r ∉ wrE.1 := by
  decide

theorem valA0_arg (V : Valuation τ sig (Elt Ideal)) {r : Ref sig .tc}
    (h : r ∈ [main_arg0, main_arg1, main_arg2, main_arg3, main_arg4, main_arg5, main_arg6, main_arg7, main_arg8, main_arg9]) :
    valA0 V (Proc.devRef .tc r) = V (Proc.devRef .tc r) := (valA0_keep V (args_unwritten r h).1).trans (rfl)

theorem valA_arg (V : Valuation τ sig (Elt Ideal)) {r : Ref sig .tc}
    (h : r ∈ [main_arg0, main_arg1, main_arg2, main_arg3, main_arg4, main_arg5, main_arg6, main_arg7, main_arg8, main_arg9]) :
    valA V (Proc.devRef .tc r) = V (Proc.devRef .tc r) := (valA_keep V (args_unwritten r h).2.1).trans (valA0_arg V h)

theorem valB0_arg (V : Valuation τ sig (Elt Ideal)) {r : Ref sig .tc}
    (h : r ∈ [main_arg0, main_arg1, main_arg2, main_arg3, main_arg4, main_arg5, main_arg6, main_arg7, main_arg8, main_arg9]) :
    valB0 V (Proc.devRef .tc r) = V (Proc.devRef .tc r) := (valB0_keep V (args_unwritten r h).2.2.1).trans (valA_arg V h)

theorem valB_arg (V : Valuation τ sig (Elt Ideal)) {r : Ref sig .tc}
    (h : r ∈ [main_arg0, main_arg1, main_arg2, main_arg3, main_arg4, main_arg5, main_arg6, main_arg7, main_arg8, main_arg9]) :
    valB V (Proc.devRef .tc r) = V (Proc.devRef .tc r) := (valB_keep V (args_unwritten r h).2.2.2.1).trans (valB0_arg V h)

theorem valC1_arg (V : Valuation τ sig (Elt Ideal)) {r : Ref sig .tc}
    (h : r ∈ [main_arg0, main_arg1, main_arg2, main_arg3, main_arg4, main_arg5, main_arg6, main_arg7, main_arg8, main_arg9]) :
    valC1 V (Proc.devRef .tc r) = V (Proc.devRef .tc r) := (valC1_keep V (args_unwritten r h).2.2.2.2.1).trans (valB_arg V h)

theorem valC2_arg (V : Valuation τ sig (Elt Ideal)) {r : Ref sig .tc}
    (h : r ∈ [main_arg0, main_arg1, main_arg2, main_arg3, main_arg4, main_arg5, main_arg6, main_arg7, main_arg8, main_arg9]) :
    valC2 V (Proc.devRef .tc r) = V (Proc.devRef .tc r) := (valC2_keep V (args_unwritten r h).2.2.2.2.2.1).trans (valC1_arg V h)

theorem valD0_arg (V : Valuation τ sig (Elt Ideal)) {r : Ref sig .tc}
    (h : r ∈ [main_arg0, main_arg1, main_arg2, main_arg3, main_arg4, main_arg5, main_arg6, main_arg7, main_arg8, main_arg9]) :
    valD0 V (Proc.devRef .tc r) = V (Proc.devRef .tc r) := (valD0_keep V (args_unwritten r h).2.2.2.2.2.2.1).trans (valC2_arg V h)

theorem valD_arg (V : Valuation τ sig (Elt Ideal)) {r : Ref sig .tc}
    (h : r ∈ [main_arg0, main_arg1, main_arg2, main_arg3, main_arg4, main_arg5, main_arg6, main_arg7, main_arg8, main_arg9]) :
    valD V (Proc.devRef .tc r) = V (Proc.devRef .tc r) := (valD_keep V (args_unwritten r h).2.2.2.2.2.2.2.1).trans (valD0_arg V h)

theorem valE0_arg (V : Valuation τ sig (Elt Ideal)) {r : Ref sig .tc}
    (h : r ∈ [main_arg0, main_arg1, main_arg2, main_arg3, main_arg4, main_arg5, main_arg6, main_arg7, main_arg8, main_arg9]) :
    valE0 V (Proc.devRef .tc r) = V (Proc.devRef .tc r) := (valE0_keep V (args_unwritten r h).2.2.2.2.2.2.2.2.1).trans (valD_arg V h)

theorem valE_arg (V : Valuation τ sig (Elt Ideal)) {r : Ref sig .tc}
    (h : r ∈ [main_arg0, main_arg1, main_arg2, main_arg3, main_arg4, main_arg5, main_arg6, main_arg7, main_arg8, main_arg9]) :
    valE V (Proc.devRef .tc r) = V (Proc.devRef .tc r) := (valE_keep V (args_unwritten r h).2.2.2.2.2.2.2.2.2).trans (valE0_arg V h)

/-- The reference terminates with every semaphore counter at zero, its arguments unchanged and its results as the stages leave them. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = valE (launchContents m d) (Proc.devRef .tc b))
      ∧ r.2.sem = fun _ => 0 :=
  θ_run_mono (run m ρ) fun r h =>
    ⟨fun d b => (h d b).trans (congrFun (after_opsAll _) _), Idealize.ShloMosaic.sem_eq_zero_of_no_sems (by decide) r.2⟩

/-- The frame of the reference. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 :=
  θ_run_mono (run_results m ρ) fun r h => ⟨fun c => ⟨(h.1 c main_arg0).trans (valE_arg _ (by decide)), (h.1 c main_arg1).trans (valE_arg _ (by decide)), (h.1 c main_arg2).trans (valE_arg _ (by decide)), (h.1 c main_arg3).trans (valE_arg _ (by decide)), (h.1 c main_arg4).trans (valE_arg _ (by decide)), (h.1 c main_arg5).trans (valE_arg _ (by decide)), (h.1 c main_arg6).trans (valE_arg _ (by decide)), (h.1 c main_arg7).trans (valE_arg _ (by decide)), (h.1 c main_arg8).trans (valE_arg _ (by decide)), (h.1 c main_arg9).trans (valE_arg _ (by decide))⟩, h.2⟩

end Cert.ReferenceIdeal.Value
-- ==== Proof.Spec.lean ====
module

public import Idealize.ShloMosaic.PureOps.Ideal
public import Idealize.ShloMosaic.PureOps.Ideal.Laws

/-! The network as plain formulas over the extended reals: a strided convolution and a transposed one on
    zero-bordered images, the nearest codebook row, and the sums that measure the distance to it. -/

@[expose] public section

set_option maxRecDepth 16384

noncomputable section

namespace Cert.Net

/-! ## Images with a zero border -/

/-- The image `f` read one row and one column late, zero outside it. -/
def px {n : ℕ} (f : Fin n → Fin n → EReal) (r c : ℕ) : EReal :=
  if h : (1 ≤ r ∧ r - 1 < n) ∧ (1 ≤ c ∧ c - 1 < n) then f ⟨r - 1, h.1.2⟩ ⟨c - 1, h.2.2⟩ else 0

/-- One output of a 4×4 convolution of stride two, border one, followed by the positive part. -/
def conv {I n : ℕ} (w : Fin I → Fin 4 → Fin 4 → EReal) (b : EReal) (f : Fin I → Fin n → Fin n → EReal) (y x : ℕ) : EReal :=
  max ((∑ i, ∑ kh : Fin 4, ∑ kw : Fin 4, w i kh kw * px (f i) (kh.val + 2 * y) (kw.val + 2 * x)) + b) 0

/-- The two kernel rows that reach an output row of parity `p`. -/
def tap (p a : Fin 2) : Fin 4 := ⟨2 * a.val + 1 - p.val, by omega⟩

/-- One output of a 4×4 transposed convolution of stride two, border one: at row `2y + p`, column `2x + q`. -/
def tconv {I n : ℕ} (w : Fin I → Fin 4 → Fin 4 → EReal) (b : EReal) (f : Fin I → Fin n → Fin n → EReal)
    (p q : Fin 2) (y x : ℕ) : EReal :=
  (∑ i, ∑ a : Fin 2, ∑ c : Fin 2, w i (tap p a) (tap q c) * px (f i) (y + p.val + 1 - a.val) (x + q.val + 1 - c.val)) + b

/-- The same at a row and a column of the large image. -/
def tconvAt {I n : ℕ} (w : Fin I → Fin 4 → Fin 4 → EReal) (b : EReal) (f : Fin I → Fin n → Fin n → EReal) (Y X : ℕ) : EReal :=
  tconv w b f ⟨Y % 2, Nat.mod_lt _ (by decide)⟩ ⟨X % 2, Nat.mod_lt _ (by decide)⟩ (Y / 2) (X / 2)

/-- The image spread out by two in both directions behind a border of two. -/
def spread {n : ℕ} (f : Fin n → Fin n → EReal) (r c : ℕ) : EReal :=
  if r % 2 = 0 ∧ c % 2 = 0 then px f (r / 2) (c / 2) else 0

theorem sixteen {I : ℕ} (T : Fin I → Fin 4 → Fin 4 → EReal) :
    (∑ i, ∑ kh, ∑ kw, T i kh kw) = ∑ i, (T i 0 0 + T i 0 1 + T i 0 2 + T i 0 3 + T i 1 0 + T i 1 1 + T i 1 2 + T i 1 3
      + T i 2 0 + T i 2 1 + T i 2 2 + T i 2 3 + T i 3 0 + T i 3 1 + T i 3 2 + T i 3 3) := by
  refine Finset.sum_congr rfl fun i _ => ?_
  simp only [Fin.sum_univ_four, add_assoc]

/-- Sixteen taps over the spread image leave the four whose parity fits. -/
theorem tconvAt_eq {I n : ℕ} (w : Fin I → Fin 4 → Fin 4 → EReal) (b : EReal) (f : Fin I → Fin n → Fin n → EReal) (Y X : ℕ) :
    (∑ i, ∑ kh : Fin 4, ∑ kw : Fin 4, w i (Fin.rev kh) (Fin.rev kw) * spread (f i) (kh.val + Y) (kw.val + X)) + b
      = tconvAt w b f Y X := by
  unfold tconvAt tconv
  refine congrArg (fun z : EReal => z + b) (Finset.sum_congr rfl fun i _ => ?_)
  have row : ∀ (c c' : ℕ) (u : Fin 4) , (∑ kh : Fin 4, w i (Fin.rev kh) u * (if (kh.val + Y) % 2 = 0 ∧ c % 2 = 0 then px (f i) ((kh.val + Y) / 2) c' else 0))
      = ∑ a : Fin 2, w i (tap ⟨Y % 2, Nat.mod_lt _ (by decide)⟩ a) u * (if c % 2 = 0 then px (f i) (Y / 2 + Y % 2 + 1 - a.val) c' else 0) := by
    intro c c' u
    rcases Nat.mod_two_eq_zero_or_one Y with h | h
    · have e0 : (0 + Y) % 2 = 0 := by omega
      have e1 : ¬ (1 + Y) % 2 = 0 := by omega
      have e2 : (2 + Y) % 2 = 0 := by omega
      have e3 : ¬ (3 + Y) % 2 = 0 := by omega
      have d0 : (0 + Y) / 2 = Y / 2 + 0 + 1 - 1 := by omega
      have d2 : (2 + Y) / 2 = Y / 2 + 0 + 1 - 0 := by omega
      have t0 : tap ⟨Y % 2, Nat.mod_lt _ (by decide)⟩ 0 = 1 := Fin.ext (by show 2 * 0 + 1 - Y % 2 = 1; omega)
      have t1 : tap ⟨Y % 2, Nat.mod_lt _ (by decide)⟩ 1 = 3 := Fin.ext (by show 2 * 1 + 1 - Y % 2 = 3; omega)
      rw [Fin.sum_univ_four, Fin.sum_univ_two, t0, t1]
      show w i 3 u * (if (0 + Y) % 2 = 0 ∧ c % 2 = 0 then px (f i) ((0 + Y) / 2) c' else 0) + w i 2 u * (if (1 + Y) % 2 = 0 ∧ c % 2 = 0 then px (f i) ((1 + Y) / 2) c' else 0)
        + w i 1 u * (if (2 + Y) % 2 = 0 ∧ c % 2 = 0 then px (f i) ((2 + Y) / 2) c' else 0) + w i 0 u * (if (3 + Y) % 2 = 0 ∧ c % 2 = 0 then px (f i) ((3 + Y) / 2) c' else 0)
        = w i 1 u * (if c % 2 = 0 then px (f i) (Y / 2 + Y % 2 + 1 - 0) c' else 0) + w i 3 u * (if c % 2 = 0 then px (f i) (Y / 2 + Y % 2 + 1 - 1) c' else 0)
      rw [h, d0, d2]
      simp only [e0, e1, e2, e3, true_and, false_and, if_false, mul_zero, add_zero]
      exact add_comm _ _
    · have e0 : ¬ (0 + Y) % 2 = 0 := by omega
      have e1 : (1 + Y) % 2 = 0 := by omega
      have e2 : ¬ (2 + Y) % 2 = 0 := by omega
      have e3 : (3 + Y) % 2 = 0 := by omega
      have d1 : (1 + Y) / 2 = Y / 2 + 1 + 1 - 1 := by omega
      have d3 : (3 + Y) / 2 = Y / 2 + 1 + 1 - 0 := by omega
      have t0 : tap ⟨Y % 2, Nat.mod_lt _ (by decide)⟩ 0 = 0 := Fin.ext (by show 2 * 0 + 1 - Y % 2 = 0; omega)
      have t1 : tap ⟨Y % 2, Nat.mod_lt _ (by decide)⟩ 1 = 2 := Fin.ext (by show 2 * 1 + 1 - Y % 2 = 2; omega)
      rw [Fin.sum_univ_four, Fin.sum_univ_two, t0, t1]
      show w i 3 u * (if (0 + Y) % 2 = 0 ∧ c % 2 = 0 then px (f i) ((0 + Y) / 2) c' else 0) + w i 2 u * (if (1 + Y) % 2 = 0 ∧ c % 2 = 0 then px (f i) ((1 + Y) / 2) c' else 0)
        + w i 1 u * (if (2 + Y) % 2 = 0 ∧ c % 2 = 0 then px (f i) ((2 + Y) / 2) c' else 0) + w i 0 u * (if (3 + Y) % 2 = 0 ∧ c % 2 = 0 then px (f i) ((3 + Y) / 2) c' else 0)
        = w i 0 u * (if c % 2 = 0 then px (f i) (Y / 2 + Y % 2 + 1 - 0) c' else 0) + w i 2 u * (if c % 2 = 0 then px (f i) (Y / 2 + Y % 2 + 1 - 1) c' else 0)
      rw [h, d1, d3]
      simp only [e0, e1, e2, e3, true_and, false_and, if_false, mul_zero, add_zero]
      simp only [zero_add]
      exact add_comm _ _
  have col : ∀ (r' : ℕ) (u : Fin 4), (∑ kw : Fin 4, w i u (Fin.rev kw) * (if (kw.val + X) % 2 = 0 then px (f i) r' ((kw.val + X) / 2) else 0))
      = ∑ c : Fin 2, w i u (tap ⟨X % 2, Nat.mod_lt _ (by decide)⟩ c) * px (f i) r' (X / 2 + X % 2 + 1 - c.val) := by
    intro r' u
    rcases Nat.mod_two_eq_zero_or_one X with h | h
    · have e0 : (0 + X) % 2 = 0 := by omega
      have e1 : ¬ (1 + X) % 2 = 0 := by omega
      have e2 : (2 + X) % 2 = 0 := by omega
      have e3 : ¬ (3 + X) % 2 = 0 := by omega
      have d0 : (0 + X) / 2 = X / 2 + 0 + 1 - 1 := by omega
      have d2 : (2 + X) / 2 = X / 2 + 0 + 1 - 0 := by omega
      have t0 : tap ⟨X % 2, Nat.mod_lt _ (by decide)⟩ 0 = 1 := Fin.ext (by show 2 * 0 + 1 - X % 2 = 1; omega)
      have t1 : tap ⟨X % 2, Nat.mod_lt _ (by decide)⟩ 1 = 3 := Fin.ext (by show 2 * 1 + 1 - X % 2 = 3; omega)
      rw [Fin.sum_univ_four, Fin.sum_univ_two, t0, t1]
      show w i u 3 * (if (0 + X) % 2 = 0 then px (f i) r' ((0 + X) / 2) else 0) + w i u 2 * (if (1 + X) % 2 = 0 then px (f i) r' ((1 + X) / 2) else 0)
        + w i u 1 * (if (2 + X) % 2 = 0 then px (f i) r' ((2 + X) / 2) else 0) + w i u 0 * (if (3 + X) % 2 = 0 then px (f i) r' ((3 + X) / 2) else 0)
        = w i u 1 * px (f i) r' (X / 2 + X % 2 + 1 - 0) + w i u 3 * px (f i) r' (X / 2 + X % 2 + 1 - 1)
      rw [h, if_pos e0, if_neg e1, if_pos e2, if_neg e3, d0, d2]
      simp only [mul_zero, add_zero]
      exact add_comm _ _
    · have e0 : ¬ (0 + X) % 2 = 0 := by omega
      have e1 : (1 + X) % 2 = 0 := by omega
      have e2 : ¬ (2 + X) % 2 = 0 := by omega
      have e3 : (3 + X) % 2 = 0 := by omega
      have d1 : (1 + X) / 2 = X / 2 + 1 + 1 - 1 := by omega
      have d3 : (3 + X) / 2 = X / 2 + 1 + 1 - 0 := by omega
      have t0 : tap ⟨X % 2, Nat.mod_lt _ (by decide)⟩ 0 = 0 := Fin.ext (by show 2 * 0 + 1 - X % 2 = 0; omega)
      have t1 : tap ⟨X % 2, Nat.mod_lt _ (by decide)⟩ 1 = 2 := Fin.ext (by show 2 * 1 + 1 - X % 2 = 2; omega)
      rw [Fin.sum_univ_four, Fin.sum_univ_two, t0, t1]
      show w i u 3 * (if (0 + X) % 2 = 0 then px (f i) r' ((0 + X) / 2) else 0) + w i u 2 * (if (1 + X) % 2 = 0 then px (f i) r' ((1 + X) / 2) else 0)
        + w i u 1 * (if (2 + X) % 2 = 0 then px (f i) r' ((2 + X) / 2) else 0) + w i u 0 * (if (3 + X) % 2 = 0 then px (f i) r' ((3 + X) / 2) else 0)
        = w i u 0 * px (f i) r' (X / 2 + X % 2 + 1 - 0) + w i u 2 * px (f i) r' (X / 2 + X % 2 + 1 - 1)
      rw [h, if_neg e0, if_pos e1, if_neg e2, if_pos e3, d1, d3]
      simp only [mul_zero, zero_add, add_zero]
      exact add_comm _ _
  unfold spread
  rw [Finset.sum_comm]
  simp only [row]
  rw [Finset.sum_comm]
  simp only [col]

/-- The convolution with its sixteen taps written out. -/
theorem conv_taps {I n : ℕ} (w : Fin I → Fin 4 → Fin 4 → EReal) (b : EReal) (f : Fin I → Fin n → Fin n → EReal) (y x : ℕ) :
    conv w b f y x = max ((∑ i, (w i 0 0 * px (f i) (2 * y) (2 * x) + w i 0 1 * px (f i) (2 * y) (1 + 2 * x) + w i 0 2 * px (f i) (2 * y) (2 + 2 * x) + w i 0 3 * px (f i) (2 * y) (3 + 2 * x) + w i 1 0 * px (f i) (1 + 2 * y) (2 * x) + w i 1 1 * px (f i) (1 + 2 * y) (1 + 2 * x) + w i 1 2 * px (f i) (1 + 2 * y) (2 + 2 * x) + w i 1 3 * px (f i) (1 + 2 * y) (3 + 2 * x) + w i 2 0 * px (f i) (2 + 2 * y) (2 * x) + w i 2 1 * px (f i) (2 + 2 * y) (1 + 2 * x) + w i 2 2 * px (f i) (2 + 2 * y) (2 + 2 * x) + w i 2 3 * px (f i) (2 + 2 * y) (3 + 2 * x) + w i 3 0 * px (f i) (3 + 2 * y) (2 * x) + w i 3 1 * px (f i) (3 + 2 * y) (1 + 2 * x) + w i 3 2 * px (f i) (3 + 2 * y) (2 + 2 * x) + w i 3 3 * px (f i) (3 + 2 * y) (3 + 2 * x))) + b) 0 := by
  unfold conv
  rw [sixteen fun i kh kw => w i kh kw * px (f i) (kh.val + 2 * y) (kw.val + 2 * x)]
  show max ((∑ i, (w i 0 0 * px (f i) (0 + 2 * y) (0 + 2 * x) + w i 0 1 * px (f i) (0 + 2 * y) (1 + 2 * x) + w i 0 2 * px (f i) (0 + 2 * y) (2 + 2 * x) + w i 0 3 * px (f i) (0 + 2 * y) (3 + 2 * x) + w i 1 0 * px (f i) (1 + 2 * y) (0 + 2 * x) + w i 1 1 * px (f i) (1 + 2 * y) (1 + 2 * x) + w i 1 2 * px (f i) (1 + 2 * y) (2 + 2 * x) + w i 1 3 * px (f i) (1 + 2 * y) (3 + 2 * x) + w i 2 0 * px (f i) (2 + 2 * y) (0 + 2 * x) + w i 2 1 * px (f i) (2 + 2 * y) (1 + 2 * x) + w i 2 2 * px (f i) (2 + 2 * y) (2 + 2 * x) + w i 2 3 * px (f i) (2 + 2 * y) (3 + 2 * x) + w i 3 0 * px (f i) (3 + 2 * y) (0 + 2 * x) + w i 3 1 * px (f i) (3 + 2 * y) (1 + 2 * x) + w i 3 2 * px (f i) (3 + 2 * y) (2 + 2 * x) + w i 3 3 * px (f i) (3 + 2 * y) (3 + 2 * x))) + b) 0 = _
  simp only [zero_add]

/-- The transposed convolution with sixteen taps over the spread image written out. -/
theorem tconvAt_taps {I n : ℕ} (w : Fin I → Fin 4 → Fin 4 → EReal) (b : EReal) (f : Fin I → Fin n → Fin n → EReal) (Y X : ℕ) :
    tconvAt w b f Y X = (∑ i, (w i 3 3 * spread (f i) Y X + w i 3 2 * spread (f i) Y (1 + X) + w i 3 1 * spread (f i) Y (2 + X) + w i 3 0 * spread (f i) Y (3 + X) + w i 2 3 * spread (f i) (1 + Y) X + w i 2 2 * spread (f i) (1 + Y) (1 + X) + w i 2 1 * spread (f i) (1 + Y) (2 + X) + w i 2 0 * spread (f i) (1 + Y) (3 + X) + w i 1 3 * spread (f i) (2 + Y) X + w i 1 2 * spread (f i) (2 + Y) (1 + X) + w i 1 1 * spread (f i) (2 + Y) (2 + X) + w i 1 0 * spread (f i) (2 + Y) (3 + X) + w i 0 3 * spread (f i) (3 + Y) X + w i 0 2 * spread (f i) (3 + Y) (1 + X) + w i 0 1 * spread (f i) (3 + Y) (2 + X) + w i 0 0 * spread (f i) (3 + Y) (3 + X))) + b := by
  rw [← tconvAt_eq, sixteen fun i kh kw => w i (Fin.rev kh) (Fin.rev kw) * spread (f i) (kh.val + Y) (kw.val + X)]
  show (∑ i, (w i 3 3 * spread (f i) (0 + Y) (0 + X) + w i 3 2 * spread (f i) (0 + Y) (1 + X) + w i 3 1 * spread (f i) (0 + Y) (2 + X) + w i 3 0 * spread (f i) (0 + Y) (3 + X) + w i 2 3 * spread (f i) (1 + Y) (0 + X) + w i 2 2 * spread (f i) (1 + Y) (1 + X) + w i 2 1 * spread (f i) (1 + Y) (2 + X) + w i 2 0 * spread (f i) (1 + Y) (3 + X) + w i 1 3 * spread (f i) (2 + Y) (0 + X) + w i 1 2 * spread (f i) (2 + Y) (1 + X) + w i 1 1 * spread (f i) (2 + Y) (2 + X) + w i 1 0 * spread (f i) (2 + Y) (3 + X) + w i 0 3 * spread (f i) (3 + Y) (0 + X) + w i 0 2 * spread (f i) (3 + Y) (1 + X) + w i 0 1 * spread (f i) (3 + Y) (2 + X) + w i 0 0 * spread (f i) (3 + Y) (3 + X))) + b = _
  simp only [zero_add]

/-! ## Splitting long sums -/

/-- A sum over `a * b` places, block by block. -/
theorem sum_blocks (a b : ℕ) (F : Fin (a * b) → EReal) :
    (∑ k, F k) = ∑ i : Fin a, ∑ j : Fin b, F ⟨j.val + b * i.val, by
      have := i.isLt; have := j.isLt; nlinarith [Nat.mul_le_mul_left b (Nat.succ_le_of_lt i.isLt)]⟩ := by
  rw [← finProdFinEquiv.sum_comp, Fintype.sum_prod_type]
  rfl

/-! ## Real values among the extended reals -/

/-- `a` is a real number. -/
def IsR (a : EReal) : Prop := ∃ r : ℝ, a = (r : EReal)

theorem IsR.add {a b : EReal} : IsR a → IsR b → IsR (a + b)
  | ⟨r, hr⟩, ⟨s, hs⟩ => ⟨r + s, by rw [hr, hs, EReal.coe_add]⟩
theorem IsR.mul {a b : EReal} : IsR a → IsR b → IsR (a * b)
  | ⟨r, hr⟩, ⟨s, hs⟩ => ⟨r * s, by rw [hr, hs, EReal.coe_mul]⟩
theorem IsR.zero : IsR 0 := ⟨0, rfl⟩
theorem IsR.max {a b : EReal} (ha : IsR a) (hb : IsR b) : IsR (max a b) := by
  rcases max_choice a b with h | h <;> rw [h] <;> assumption
theorem IsR.sum {ι : Type} (s : Finset ι) (f : ι → EReal) (h : ∀ i, IsR (f i)) : IsR (∑ i ∈ s, f i) :=
  Finset.sum_induction f IsR (fun _ _ => IsR.add) IsR.zero fun i _ => h i

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem px_isR {n : ℕ} (f : Fin n → Fin n → EReal) (h : ∀ r c, IsR (f r c)) (r c : ℕ) : IsR (px f r c) := by
  unfold px; split
  · exact h _ _
  · exact IsR.zero

theorem conv_isR {I n : ℕ} (w : Fin I → Fin 4 → Fin 4 → EReal) (b : EReal) (f : Fin I → Fin n → Fin n → EReal) (y x : ℕ)
    (hw : ∀ i k l, IsR (w i k l)) (hb : IsR b) (hf : ∀ i r c, IsR (f i r c)) : IsR (conv w b f y x) :=
  ((IsR.sum _ _ fun i => IsR.sum _ _ fun k => IsR.sum _ _ fun l => (hw i k l).mul (px_isR _ (hf i) _ _)).add hb).max IsR.zero

/-! ## The first least entry of a table -/

/-- Entry `j` is the least of `t`, and the entries before it are larger. -/
def FirstMin {n : ℕ} (t : Fin n → EReal) (j : Fin n) : Prop := (∀ i, t j ≤ t i) ∧ ∀ i, i < j → t j < t i

theorem FirstMin.unique {n : ℕ} {t : Fin n → EReal} {j k : Fin n} (hj : FirstMin t j) (hk : FirstMin t k) : j = k := by
  rcases lt_trichotomy j k with h | h | h
  · exact absurd (hk.2 j h) (not_lt_of_ge (hj.1 k))
  · exact h
  · exact absurd (hj.2 k h) (not_lt_of_ge (hk.1 j))

theorem FirstMin.exists {n : ℕ} [NeZero n] (t : Fin n → EReal) : ∃ j, FirstMin t j := by
  classical
  obtain ⟨m, -, hm⟩ := Finset.exists_min_image (Finset.univ : Finset (Fin n)) t ⟨0, Finset.mem_univ _⟩
  obtain ⟨j, hj, hl⟩ := Finset.exists_min_image (Finset.univ.filter fun i => t i = t m) id ⟨m, by simp⟩
  have hjm : t j = t m := (Finset.mem_filter.mp hj).2
  refine ⟨j, fun i => hjm ▸ hm i (Finset.mem_univ _), fun i hi => lt_of_le_of_ne (hjm ▸ hm i (Finset.mem_univ _)) fun e => ?_⟩
  exact absurd (hl i (Finset.mem_filter.mpr ⟨Finset.mem_univ _, e ▸ hjm⟩)) (not_le_of_gt hi)

/-- The place of the first least entry. -/
def firstMin {n : ℕ} [NeZero n] (t : Fin n → EReal) : Fin n := (FirstMin.exists t).choose
theorem firstMin_spec {n : ℕ} [NeZero n] (t : Fin n → EReal) : FirstMin t (firstMin t) := (FirstMin.exists t).choose_spec
theorem FirstMin.eq {n : ℕ} [NeZero n] {t : Fin n → EReal} {j : Fin n} (h : FirstMin t j) : firstMin t = j :=
  (firstMin_spec t).unique h

/-- Adding one real number to every entry moves nothing. -/
theorem FirstMin.shift {n : ℕ} {t : Fin n → EReal} {j : Fin n} (h : FirstMin t j) (a : ℝ) (s : Fin n → EReal)
    (hs : ∀ i, s i = (a : EReal) + t i) : FirstMin s j :=
  ⟨fun i => by rw [hs, hs]; gcongr; exact h.1 i, fun i hi => by
    rw [hs, hs]; exact EReal.add_lt_add_left_coe (h.2 i hi) a⟩

theorem fold_min_eq {n : ℕ} (t : Fin n → EReal) (j : Fin n) (h : FirstMin t j) :
    Finset.fold min ⊤ t Finset.univ = t j := by
  apply le_antisymm
  · exact (Finset.le_fold_min _).mp le_rfl |>.2 j (Finset.mem_univ _)
  · exact (Finset.le_fold_min _).mpr ⟨le_top, fun i _ => h.1 i⟩

open Idealize.ShloMosaic in
theorem fold_minsi {n : ℕ} (g : Fin n → ℕ) (hg : ∀ i, g i ≤ 1024) (s : Finset (Fin n)) :
    Finset.fold IntOp.minsi (2147483647#32) (fun i => BitVec.ofNat 32 (g i)) s
      = BitVec.ofNat 32 (Finset.fold min 2147483647 g s) ∧ Finset.fold min 2147483647 g s ≤ 2147483647 := by
  classical
  induction s using Finset.induction_on with
  | empty => exact ⟨by simp, by simp⟩
  | insert a s ha ih =>
    rw [Finset.fold_insert ha, Finset.fold_insert ha, ih.1]
    have h1 := hg a
    have h2 := ih.2
    refine ⟨?_, by omega⟩
    generalize g a = u at *
    generalize Finset.fold min 2147483647 g s = v at *
    have hu : (BitVec.ofNat 32 u).toInt = u := by
      rw [BitVec.toInt_eq_toNat_of_lt] <;> simp <;> omega
    have hv : (BitVec.ofNat 32 v).toInt = v := by
      rw [BitVec.toInt_eq_toNat_of_lt] <;> simp <;> omega
    unfold IntOp.minsi
    simp only [BitVec.slt_iff_toInt_lt, hu, hv]
    rcases lt_or_ge u v with h | h
    · rw [if_pos (by exact_mod_cast h), min_eq_left (by omega)]
    · rw [if_neg (by exact_mod_cast not_lt.mpr h), min_eq_right h]

open Idealize.ShloMosaic in
/-- The least row number among the rows that hold the least value. -/
theorem fold_rows_eq (t : Fin 1024 → EReal) (j : Fin 1024) (h : FirstMin t j) (m : EReal) (hm : m = t j) :
    Finset.fold IntOp.minsi (2147483647#32) (fun x : Fin 1024 => if t x = m then BitVec.ofNat 32 x.val else 1024#32) Finset.univ
      = BitVec.ofNat 32 j.val := by
  classical
  subst hm
  have e : (fun x : Fin 1024 => if t x = t j then BitVec.ofNat 32 x.val else 1024#32)
      = fun x => BitVec.ofNat 32 ((fun x : Fin 1024 => if t x = t j then x.val else 1024) x) := by
    funext x; dsimp only; split <;> rfl
  rw [e, (fold_minsi _ (fun i => by split <;> omega) _).1]
  refine congrArg _ (le_antisymm ?_ ?_)
  · have := (Finset.le_fold_min (b := 2147483647) (f := fun x : Fin 1024 => if t x = t j then x.val else 1024) (s := Finset.univ) _).mp le_rfl |>.2 j (Finset.mem_univ _)
    simpa using this
  · refine (Finset.le_fold_min _).mpr ⟨by omega, fun i _ => ?_⟩
    split
    · rename_i hi
      by_contra hc
      exact absurd (h.2 i (by simpa using hc)) (by rw [hi]; exact lt_irrefl _)
    · omega

/-- The left fold that keeps the smaller value, the earlier entry on ties, from an infinite start. -/
theorem foldl_first {β : Type} (n : ℕ) [NeZero n] (t : Fin n → EReal) (ht : ∀ i, IsR (t i)) (g : Fin n → β) (b0 : β)
    (f : EReal × β → EReal × β → EReal × β)
    (hlt : ∀ a b, a.1 < b.1 → f a b = a) (hgt : ∀ a b, b.1 < a.1 → f a b = b)
    (heq : ∀ i j : Fin n, i < j → t i = t j → f (t i, g i) (t j, g j) = (t i, g i)) :
    (List.finRange n).foldl (fun r i => f r (t i, g i)) (⊤, b0) = (t (firstMin t), g (firstMin t)) := by
  classical
  have key : ∀ k (hk : k < n), ∃ j : Fin n, j.val ≤ k ∧ (∀ i : Fin n, i.val ≤ k → t j ≤ t i) ∧ (∀ i : Fin n, i < j → t j < t i)
      ∧ ((List.finRange n).take (k + 1)).foldl (fun r i => f r (t i, g i)) (⊤, b0) = (t j, g j) := by
    intro k
    induction k with
    | zero =>
      intro hk
      refine ⟨⟨0, hk⟩, le_rfl, fun i hi => ?_, fun i hi => absurd hi (by simp [Fin.lt_def]), ?_⟩
      · have : i = ⟨0, hk⟩ := Fin.ext (by simpa using hi)
        rw [this]
      · rw [List.take_add_one, List.take_zero, List.nil_append, List.getElem?_eq_getElem (by simpa using hk)]
        simp only [List.getElem_finRange, Option.toList_some, List.foldl_cons, List.foldl_nil]
        obtain ⟨r, hr⟩ := ht ⟨0, hk⟩
        refine hgt _ _ ?_
        show t _ < ⊤
        simp only [Fin.cast_mk]
        rw [hr]; exact EReal.coe_lt_top r
    | succ k ih =>
      intro hk
      obtain ⟨j, hjk, hmin, hfirst, hf⟩ := ih (by omega)
      rw [List.take_add_one, List.foldl_append, hf, List.getElem?_eq_getElem (by simpa using hk)]
      simp only [List.getElem_finRange, Option.toList_some, List.foldl_cons, List.foldl_nil, Fin.cast_mk]
      have hjlt : j < ⟨k + 1, hk⟩ := Fin.lt_def.mpr (by show j.val < k + 1; omega)
      rcases lt_trichotomy (t j) (t ⟨k + 1, hk⟩) with h | h | h
      · refine ⟨j, by omega, fun i hi => ?_, hfirst, hlt _ _ h⟩
        rcases Nat.lt_or_ge i.val (k + 1) with hi' | hi'
        · exact hmin i (by omega)
        · have : i = ⟨k + 1, hk⟩ := Fin.ext (by show i.val = k + 1; omega)
          rw [this]; exact h.le
      · refine ⟨j, by omega, fun i hi => ?_, hfirst, heq j _ hjlt h⟩
        rcases Nat.lt_or_ge i.val (k + 1) with hi' | hi'
        · exact hmin i (by omega)
        · have : i = ⟨k + 1, hk⟩ := Fin.ext (by show i.val = k + 1; omega)
          rw [this]; exact h.le
      · refine ⟨⟨k + 1, hk⟩, le_rfl, fun i hi => ?_, fun i hi => ?_, hgt _ _ h⟩
        · rcases Nat.lt_or_ge i.val (k + 1) with hi' | hi'
          · exact h.le.trans (hmin i (by omega))
          · have : i = ⟨k + 1, hk⟩ := Fin.ext (by show i.val = k + 1; omega)
            rw [this]
        · have : i.val < k + 1 := hi
          exact lt_of_lt_of_le h (hmin i (by omega))
  have hn : 0 < n := Nat.pos_of_ne_zero (NeZero.ne n)
  obtain ⟨j, -, hmin, hfirst, hf⟩ := key (n - 1) (by omega)
  rw [List.take_of_length_le (by rw [List.length_finRange]; omega)] at hf
  rw [hf, FirstMin.eq (j := j) ⟨fun i => hmin i (by have := i.isLt; omega), hfirst⟩]

/-! ## Distances to the codebook -/

/-- The channels of image, row and column number `n`, as one vector. -/
def zrow (z : Fin 8 → Fin 64 → Fin 128 → Fin 128 → EReal) (n : Fin 131072) (c : Fin 64) : EReal :=
  z ⟨n.val / 16384, by omega⟩ c ⟨n.val / 128 % 128, by omega⟩ ⟨n.val % 128, by omega⟩

/-- The part of the squared distance from `z` to row `j` that depends on the row. -/
def rowDist (z : Fin 64 → EReal) (cb : Fin 1024 → Fin 64 → EReal) (j : Fin 1024) : EReal :=
  (∑ c, cb j c * cb j c) - 2 * ∑ c, cb j c * z c

/-- The nearest codebook row. -/
def nearest (z : Fin 64 → EReal) (cb : Fin 1024 → Fin 64 → EReal) : Fin 1024 := firstMin (rowDist z cb)

/-- The squared distance from `z` to row `j`, as the expanded square. -/
def fullDist (z : Fin 64 → EReal) (cb : Fin 1024 → Fin 64 → EReal) (j : Fin 1024) : EReal :=
  ((∑ c, z c * z c) - ∑ c, (2 * z c) * cb j c) + ∑ c, cb j c * cb j c

theorem two_coe : (2 : EReal) = ((2 : ℝ) : EReal) := rfl

theorem fullDist_eq (z : Fin 64 → EReal) (cb : Fin 1024 → Fin 64 → EReal) (hz : ∀ c, IsR (z c)) (hcb : ∀ j c, IsR (cb j c)) :
    ∃ a : ℝ, (∑ c, z c * z c) = (a : EReal) ∧ ∀ j, fullDist z cb j = (a : EReal) + rowDist z cb j := by
  choose zr hzr using hz
  choose cr hcr using hcb
  refine ⟨∑ c, zr c * zr c, by simp only [hzr, coe_sum, EReal.coe_mul], fun j => ?_⟩
  unfold fullDist rowDist
  simp only [hzr, hcr, two_coe, ← EReal.coe_mul, ← coe_sum, ← EReal.coe_sub, ← EReal.coe_add]
  refine congrArg _ ?_
  have : ∑ c, 2 * zr c * cr j c = 2 * ∑ c, cr j c * zr c := by
    rw [Finset.mul_sum]; exact Finset.sum_congr rfl fun c _ => by ring
  rw [this]; ring

theorem rowDist_isR (z : Fin 64 → EReal) (cb : Fin 1024 → Fin 64 → EReal) (hz : ∀ c, IsR (z c)) (hcb : ∀ j c, IsR (cb j c)) (j : Fin 1024) :
    IsR (rowDist z cb j) := by
  choose zr hzr using hz
  choose cr hcr using hcb
  unfold rowDist
  simp only [hzr, hcr, two_coe, ← EReal.coe_mul, ← coe_sum, ← EReal.coe_sub]
  exact ⟨_, rfl⟩

theorem fullDist_isR (z : Fin 64 → EReal) (cb : Fin 1024 → Fin 64 → EReal) (hz : ∀ c, IsR (z c)) (hcb : ∀ j c, IsR (cb j c)) (j : Fin 1024) :
    IsR (fullDist z cb j) := by
  obtain ⟨a, -, h⟩ := fullDist_eq z cb hz hcb
  rw [h]; exact IsR.add ⟨a, rfl⟩ (rowDist_isR z cb hz hcb j)

theorem nearest_full (z : Fin 64 → EReal) (cb : Fin 1024 → Fin 64 → EReal) (hz : ∀ c, IsR (z c)) (hcb : ∀ j c, IsR (cb j c)) :
    firstMin (fullDist z cb) = nearest z cb := by
  obtain ⟨a, -, h⟩ := fullDist_eq z cb hz hcb
  exact FirstMin.eq ((firstMin_spec (rowDist z cb)).shift a _ h)

/-- The squared distance to a row, written out, is the square of `z` and the row's own part. -/
theorem sq_dist (z : Fin 64 → EReal) (cb : Fin 1024 → Fin 64 → EReal) (hz : ∀ c, IsR (z c)) (hcb : ∀ j c, IsR (cb j c)) (j : Fin 1024) :
    (∑ c, (z c - cb j c) * (z c - cb j c)) = (∑ c, z c * z c) + rowDist z cb j := by
  choose zr hzr using hz
  choose cr hcr using hcb
  unfold rowDist
  simp only [hzr, hcr, two_coe, ← EReal.coe_mul, ← coe_sum, ← EReal.coe_sub, ← EReal.coe_add]
  refine congrArg _ ?_
  rw [Finset.mul_sum, ← Finset.sum_sub_distrib, ← Finset.sum_add_distrib]
  exact Finset.sum_congr rfl fun c _ => by ring

theorem add_sub_self (a b : EReal) (ha : IsR a) (hb : IsR b) : a + (b - a) = b := by
  obtain ⟨r, rfl⟩ := ha
  obtain ⟨s, rfl⟩ := hb
  rw [← EReal.coe_sub, ← EReal.coe_add]; exact congrArg _ (by ring)

/-- A row picked out by a table of zeros and a one. -/
theorem sum_pick {n : ℕ} (v : Fin n → EReal) (j : Fin n) (e : Fin n → EReal) (h1 : e j = 1) (h0 : ∀ i, i ≠ j → e i = 0) :
    (∑ i, v i * e i) = v j := by
  rw [Finset.sum_eq_single j (fun i _ hi => by rw [h0 i hi, mul_zero]) (fun h => absurd (Finset.mem_univ _) h), h1, mul_one]

/-! ## The whole network -/

/-- The ten arguments, as functions of their coordinates. -/
structure Args where
  x : Fin 8 → Fin 1 → Fin 512 → Fin 512 → EReal
  w1 : Fin 32 → Fin 1 → Fin 4 → Fin 4 → EReal
  b1 : Fin 32 → EReal
  w2 : Fin 64 → Fin 32 → Fin 4 → Fin 4 → EReal
  b2 : Fin 64 → EReal
  cb : Fin 1024 → Fin 64 → EReal
  u1 : Fin 64 → Fin 32 → Fin 4 → Fin 4 → EReal
  c1 : Fin 32 → EReal
  u2 : Fin 32 → Fin 1 → Fin 4 → Fin 4 → EReal
  c2 : Fin 1 → EReal

/-- The encoder's six arguments hold real numbers. -/
structure Args.Real (A : Args) : Prop where
  x : ∀ b i y x, IsR (A.x b i y x)
  w1 : ∀ o i a c, IsR (A.w1 o i a c)
  b1 : ∀ o, IsR (A.b1 o)
  w2 : ∀ o i a c, IsR (A.w2 o i a c)
  b2 : ∀ o, IsR (A.b2 o)
  cb : ∀ j c, IsR (A.cb j c)

/-- The first encoder layer. -/
def hidden (A : Args) (b : Fin 8) (o : Fin 32) (y x : Fin 256) : EReal := conv (A.w1 o) (A.b1 o) (A.x b) y.val x.val
/-- The second encoder layer. -/
def latent (A : Args) (b : Fin 8) (o : Fin 64) (y x : Fin 128) : EReal := conv (A.w2 o) (A.b2 o) (hidden A b) y.val x.val
/-- The codebook row picked at position `n`. -/
def code (A : Args) (n : Fin 131072) : Fin 1024 := nearest (zrow (latent A) n) A.cb
/-- The picked rows as an image of 64 channels. -/
def picked (A : Args) (b : Fin 8) (c : Fin 64) (y x : Fin 128) : EReal := A.cb (code A ⟨b.val * 16384 + y.val * 128 + x.val, by omega⟩) c
/-- The first decoder layer. -/
def middle (A : Args) (b : Fin 8) (o : Fin 32) (y x : Fin 256) : EReal :=
  max (tconvAt (fun i => A.u1 i o) (A.c1 o) (picked A b) y.val x.val) 0
/-- The reconstruction. -/
def image (A : Args) (b : Fin 8) (o : Fin 1) (y x : Fin 512) : EReal :=
  Idealize.ShloMosaic.Ideal.logistic (tconvAt (fun i => A.u2 i o) (A.c2 o) (middle A b) y.val x.val)
/-- The squared distances from the encoded vectors to their rows, added up. -/
def total (A : Args) : EReal :=
  ∑ n : Fin 131072, ∑ c : Fin 64, (zrow (latent A) n c - A.cb (code A n) c) * (zrow (latent A) n c - A.cb (code A n) c)
/-- The mean squared distance. -/
def loss (A : Args) : EReal := Idealize.ShloMosaic.Ideal.div (total A) (Idealize.ShloMosaic.Ideal.ofBits .f32 1258291200#32)

theorem hidden_isR {A : Args} (h : A.Real) (b : Fin 8) (o : Fin 32) (y x : Fin 256) : IsR (hidden A b o y x) :=
  conv_isR _ _ _ _ _ (h.w1 o) (h.b1 o) (h.x b)
theorem latent_isR {A : Args} (h : A.Real) (b : Fin 8) (o : Fin 64) (y x : Fin 128) : IsR (latent A b o y x) :=
  conv_isR _ _ _ _ _ (h.w2 o) (h.b2 o) (hidden_isR h b)

/-- Row and column of a position number. -/
theorem zrow_at (z : Fin 8 → Fin 64 → Fin 128 → Fin 128 → EReal) (b : Fin 8) (c : Fin 64) (y x : Fin 128)
    (h : b.val * 16384 + y.val * 128 + x.val < 131072) : zrow z ⟨b.val * 16384 + y.val * 128 + x.val, h⟩ c = z b c y x := by
  unfold zrow
  congr 1 <;> exact Fin.ext (by simp only []; omega)

end Cert.Net
-- ==== Proof.PreFinite.lean ====
module

public import proofs.«01_k».proof.Pre_encoder_inputs_finite
public import proofs.«01_k».proof.Proof.Spec
public import Idealize.ShloMosaic.Lib.ReduceAll
public import Idealize.ShloMosaic.Lib.Pointwise
public import Idealize.ShloMosaic.PureOps.Ideal

/-! The precondition read back: an array below infinity in absolute value holds real numbers. -/

@[expose] public section

set_option maxRecDepth 16384
noncomputable section

namespace Cert.Pre_encoder_inputs_finite

open Idealize.ShloMosaic Cert.Net

/-- The precondition's side conditions. -/
theorem facts : Facts := by
  constructor <;> decide

/-- The largest word. -/
theorem inf_word : (Ideal.ofBits FTy.f32 2139095040#32 : EReal) = ⊤ := by
  simp [Ideal.ofBits, Ideal.ieee]

/-- A number whose absolute value lies below infinity is real. -/
theorem real_of_below (a : EReal) (h : Ideal.cmp .olt (max a (-a)) (⊤ : EReal) = 1#1) : IsR a := by
  have h' : max a (-a) < ⊤ := by
    by_contra q
    simp [Ideal.cmp, q] at h
  induction a using EReal.rec with
  | bot => simp at h'
  | coe r => exact ⟨r, rfl⟩
  | top => simp at h'

theorem real_entry {s : Shape} (x : FVec Ideal s .f32) (hb : S_.BroadcastsInDim s (![] : Fin 0 → Fin s.rank)) (i : s.Idx)
    (h : cmpf .olt (Host.absf x) (broadcastInDim s ![] hb (constant S_ .f32 0x7F800000#32 : FVec Ideal S_ .f32)) i = 1#1) : IsR (x i) := by
  refine real_of_below (x i) ?_
  rw [← inf_word]
  exact h

theorem one_index (i j : S_.Idx) : i = j := funext fun k => k.elim0

theorem and_one (p q : IVec S_ 1) (j : S_.Idx) (h : andi p q j = 1#1) : p j = 1#1 ∧ q j = 1#1 := IntOp.andi_eq_one.1 h

/-- What the precondition says: the six arrays hold real numbers. -/
theorem real_of_fn [Facts] (x0 : FVec Ideal S8x1x512x512 .f32) (x1 : FVec Ideal S32x1x4x4 .f32) (x2 : FVec Ideal S32 .f32)
    (x3 : FVec Ideal S64x32x4x4 .f32) (x4 : FVec Ideal S64 .f32) (x5 : FVec Ideal S1024x64 .f32) (x6 : FVec Ideal S64x32x4x4 .f32)
    (x7 : FVec Ideal S32 .f32) (x8 : FVec Ideal S32x1x4x4 .f32) (x9 : FVec Ideal S1 .f32) (j : S_.Idx)
    (h : fn (F := Ideal) x0 x1 x2 x3 x4 x5 x6 x7 x8 x9 j = 1#1) :
    (∀ i, IsR (x0 i)) ∧ (∀ i, IsR (x1 i)) ∧ (∀ i, IsR (x2 i)) ∧ (∀ i, IsR (x3 i)) ∧ (∀ i, IsR (x4 i)) ∧ ∀ i, IsR (x5 i) := by
  haveI : Subsingleton S_.Idx := ⟨one_index⟩
  unfold fn fn_part1 at h
  obtain ⟨h, h5⟩ := and_one _ _ j h
  obtain ⟨h, h4⟩ := and_one _ _ j h
  obtain ⟨h, h3⟩ := and_one _ _ j h
  obtain ⟨h, h2⟩ := and_one _ _ j h
  obtain ⟨h0, h1⟩ := and_one _ _ j h
  exact ⟨fun i => real_entry x0 _ i (Host.reduce_andi_all _ _ _ _ j h0 i), fun i => real_entry x1 _ i (Host.reduce_andi_all _ _ _ _ j h1 i),
    fun i => real_entry x2 _ i (Host.reduce_andi_all _ _ _ _ j h2 i), fun i => real_entry x3 _ i (Host.reduce_andi_all _ _ _ _ j h3 i),
    fun i => real_entry x4 _ i (Host.reduce_andi_all _ _ _ _ j h4 i), fun i => real_entry x5 _ i (Host.reduce_andi_all _ _ _ _ j h5 i)⟩

end Cert.Pre_encoder_inputs_finite
-- ==== Proof.KRun.lean ====
module

public import proofs.«01_k».proof.Proof.Gen.KernelIdeal.Frame

/-! The kernel's run, kept with the contents of its three result arrays: each ends at the last boundary's contents. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with every counter at zero the kernel ends, its results at the last boundary's contents, its
    arguments as launched and every counter at zero. -/
theorem run_results : θ_run defs (onTc (τ := τ) (main (F := F))) ⟨m, fun _ => 0, ρ⟩ (fun r => (∀ c : Dev nD,
      r.2.mem ((c.tc : Thread nD τ).loc main_v245) = W21 m ρ c (Proc.devRef .tc main_v245)
      ∧ r.2.mem ((c.tc : Thread nD τ).loc main_v118) = W21 m ρ c (Proc.devRef .tc main_v118)
      ∧ r.2.mem ((c.tc : Thread nD τ).loc main_v119) = W21 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => ⟨(fun c =>
      ⟨h c _ (mem_uc main_v245 (by decide)), h c _ (mem_uc main_v118 (by decide)), h c _ (mem_uc main_v119 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩), funext fun g => hz g (.inr (no_unscoped g.2))⟩)

end Cert.KernelIdeal.Value
-- ==== Proof.Blocks.lean ====
module

public import proofs.«01_k».proof.Proof.Spec

/-! The network's sums in the order a blocked program adds them up. -/

@[expose] public section

set_option maxRecDepth 16384

noncomputable section

namespace Cert.Net

/-- Inside the image. -/
theorem px_in {n : ℕ} (f : Fin n → Fin n → EReal) (R C : ℕ) (r c : Fin n) (hR : R = r.val + 1) (hC : C = c.val + 1) : px f R C = f r c := by
  subst hR hC
  have h : (1 ≤ r.val + 1 ∧ r.val + 1 - 1 < n) ∧ (1 ≤ c.val + 1 ∧ c.val + 1 - 1 < n) := by
    have := r.isLt; have := c.isLt; omega
  unfold px
  rw [dif_pos h]
  rfl

/-- On the border. -/
theorem px_out {n : ℕ} (f : Fin n → Fin n → EReal) (R C : ℕ) (h : R = 0 ∨ n < R ∨ C = 0 ∨ n < C) : px f R C = 0 := by
  unfold px
  rw [dif_neg (by omega)]

theorem add5 {a b c d e a' b' c' d' e' : EReal} (ha : a = a') (hb : b = b') (hc : c = c') (hd : d = d') (he : e = e') :
    (((a + b) + c) + d) + e = (((a' + b') + c') + d') + e' := by
  rw [ha, hb, hc, hd, he]

/-- One kernel row of a convolution. -/
def crow {I n : ℕ} (w : Fin I → Fin 4 → Fin 4 → EReal) (f : Fin I → Fin n → Fin n → EReal) (kh : Fin 4) (y x : ℕ) : EReal :=
  ∑ kw : Fin 4, ∑ i, w i kh kw * px (f i) (kh.val + 2 * y) (kw.val + 2 * x)

/-- A convolution, kernel row by kernel row. -/
theorem conv_rows {I n : ℕ} (w : Fin I → Fin 4 → Fin 4 → EReal) (b : EReal) (f : Fin I → Fin n → Fin n → EReal) (y x : ℕ) :
    conv w b f y x = max ((((crow w f 0 y x + crow w f 1 y x) + crow w f 2 y x) + crow w f 3 y x) + b) 0 := by
  unfold conv
  rw [Finset.sum_comm, Fin.sum_univ_four]
  unfold crow
  rw [Finset.sum_comm (f := fun i kw => w i 0 kw * px (f i) ((0 : Fin 4).val + 2 * y) (kw.val + 2 * x)),
    Finset.sum_comm (f := fun i kw => w i 1 kw * px (f i) ((1 : Fin 4).val + 2 * y) (kw.val + 2 * x)),
    Finset.sum_comm (f := fun i kw => w i 2 kw * px (f i) ((2 : Fin 4).val + 2 * y) (kw.val + 2 * x)),
    Finset.sum_comm (f := fun i kw => w i 3 kw * px (f i) ((3 : Fin 4).val + 2 * y) (kw.val + 2 * x))]

/-- One of the four taps of a transposed convolution. -/
def ttap {I n : ℕ} (w : Fin I → Fin 4 → Fin 4 → EReal) (f : Fin I → Fin n → Fin n → EReal) (p q a c : Fin 2) (y x : ℕ) : EReal :=
  ∑ i, w i (tap p a) (tap q c) * px (f i) (y + p.val + 1 - a.val) (x + q.val + 1 - c.val)

/-- A transposed convolution, tap by tap. -/
theorem tconv_taps {I n : ℕ} (w : Fin I → Fin 4 → Fin 4 → EReal) (b : EReal) (f : Fin I → Fin n → Fin n → EReal) (p q : Fin 2) (y x : ℕ) :
    tconv w b f p q y x = (((ttap w f p q 0 0 y x + ttap w f p q 0 1 y x) + ttap w f p q 1 0 y x) + ttap w f p q 1 1 y x) + b := by
  unfold tconv ttap
  simp only [Fin.sum_univ_two, Finset.sum_add_distrib]
  rw [← add_assoc]
  exact congrArg (fun z : EReal => z + b) (congrArg (fun z : EReal => z + _) (add_right_comm _ _ _))

/-- A tap that falls on the border adds nothing. -/
theorem ttap_out {I n : ℕ} (w : Fin I → Fin 4 → Fin 4 → EReal) (f : Fin I → Fin n → Fin n → EReal) (p q a c : Fin 2) (y x : ℕ)
    (h : y + p.val + 1 - a.val = 0 ∨ n < y + p.val + 1 - a.val ∨ x + q.val + 1 - c.val = 0 ∨ n < x + q.val + 1 - c.val) :
    ttap w f p q a c y x = 0 := by
  unfold ttap
  simp only [px_out _ _ _ h, mul_zero, Finset.sum_const_zero]

/-- A tap inside the image. -/
theorem ttap_in {I n : ℕ} (w : Fin I → Fin 4 → Fin 4 → EReal) (f : Fin I → Fin n → Fin n → EReal) (p q a c : Fin 2) (y x : ℕ)
    (kh kw : Fin 4) (r s : Fin n) (hkh : tap p a = kh) (hkw : tap q c = kw) (hr : y + p.val + 1 - a.val = r.val + 1) (hs : x + q.val + 1 - c.val = s.val + 1) :
    ttap w f p q a c y x = ∑ i, w i kh kw * f i r s := by
  unfold ttap
  simp only [px_in _ _ _ r s hr hs, hkh, hkw]

end Cert.Net
-- ==== Proof.KHostEnc.lean ====
module

public import proofs.«01_k».proof.Proof.Blocks
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! What the host's steps around the encoder leave, read one element at a time. The number in a name is the
    stretch of steps it reads. -/

@[expose] public section

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.Net

variable (V : Valuation τ sig (Elt Ideal))

/-- A list of steps, cut in two. -/
theorem after_cut (n : ℕ) (l : List (HloOp τ sig (Elt Ideal))) (V : Valuation τ sig (Elt Ideal)) :
    after l V = after (l.drop n) (after (l.take n) V) := by
  induction l generalizing n V with
  | nil => simp
  | cons a l ih =>
    cases n with
    | zero => rfl
    | succ n => exact ih n (a.result V)

/-- The integer zero as a number. -/
theorem word_zero : (FloatOps.sitofp FTy.f32 0#32 : Ideal .f32) = (0 : EReal) := by
  show (((0#32 : BitVec 32).toInt : ℝ) : EReal) = 0
  simp

/-- The image with its channel axis dropped. -/
theorem h0 (b : Fin 8) (y x : Fin 512) :
    (after hostOps0 V (Proc.devRef .tc main_v0) : FVec Ideal S8x512x512 .f32) (ix3 b y x)
      = (V (Proc.devRef .tc main_arg0) : FVec Ideal S8x1x512x512 .f32) (ix4 b 0 y x) := by
  simp only [hostOps0]
  after_reads_simp
  try simp -implicitDefEqProofs only [StableHlo.TRef.toBuf, StableHlo.TRef.ofBuf, cast_cast, cast_eq]
  clean_types
  pointwise

/-- The border's value. -/
theorem h0c : (after hostOps0 V (Proc.devRef .tc main_c) : IVec S_ 32) = constantI S_ 32 0#32 := by
  simp only [hostOps0]
  after_reads_simp

/-- The image with a border of one. -/
theorem h01 (hc : (V (Proc.devRef .tc main_c) : IVec S_ 32) = constantI S_ 32 0#32) (b : Fin 8) (y x : Fin 514) :
    (after hostOps0_1 V (Proc.devRef .tc main_v1) : FVec Ideal S8x514x514 .f32) (ix3 b y x)
      = px (fun y x => (V (Proc.devRef .tc main_v0) : FVec Ideal S8x512x512 .f32) (ix3 b y x)) y.val x.val := by
  simp only [hostOps0_1]
  after_reads_simp
  try simp -implicitDefEqProofs only [StableHlo.TRef.toBuf, StableHlo.TRef.ofBuf, cast_cast, cast_eq]
  clean_types
  rw [hc]
  pointwise
  rw [word_zero]
  rfl

/-- Sixteen pieces of one shape join into any array that sixteen copies of that shape join into. -/
theorem joins16 {s t : Shape} {α : Type} (a : Fin t.rank) (f : Fin 16 → s.Idx → α) (h : Shape.Concatenates (List.replicate 16 s) t a) :
    Shape.Concatenates ((List.ofFn fun n : Fin 16 => (⟨s, f n⟩ : (s : Shape) × (s.Idx → α))).map (·.1)) t a := by
  rw [show (List.ofFn fun n : Fin 16 => (⟨s, f n⟩ : (s : Shape) × (s.Idx → α))).map (·.1) = List.replicate 16 s from rfl]
  exact h

set_option maxHeartbeats 4000000 in
/-- The sixteen shifted copies of the bordered image. -/
theorem h02P (b : Fin 8) (k : Fin 16) (y x : Fin 256) :
    (after hostOps0_2 V (Proc.devRef .tc main_v50) : FVec Ideal S8x16x65536 .f32) (ix3 b k ⟨y.val * 256 + x.val, by omega⟩)
      = (V (Proc.devRef .tc main_v1) : FVec Ideal S8x514x514 .f32) (ix3 b ⟨k.val / 4 + 2 * y.val, by omega⟩ ⟨k.val % 4 + 2 * x.val, by omega⟩) := by
  rw [after_cut 48 hostOps0_2]
  generalize hU : after (hostOps0_2.take 48) V = U
  simp only [hostOps0_2, List.drop_succ_cons, List.drop_zero]
  after_reads_simp
  try simp -implicitDefEqProofs only [StableHlo.TRef.toBuf, StableHlo.TRef.ofBuf, cast_cast, cast_eq]
  refine (concatenate_ofFn_unit_apply (t := S8x16x65536) (s₁ := S8x1x65536) 1 (N := 16) ![(U (Proc.devRef .tc main_v34) : FVec Ideal S8x1x65536 .f32), (U (Proc.devRef .tc main_v35) : FVec Ideal S8x1x65536 .f32), (U (Proc.devRef .tc main_v36) : FVec Ideal S8x1x65536 .f32), (U (Proc.devRef .tc main_v37) : FVec Ideal S8x1x65536 .f32), (U (Proc.devRef .tc main_v38) : FVec Ideal S8x1x65536 .f32), (U (Proc.devRef .tc main_v39) : FVec Ideal S8x1x65536 .f32), (U (Proc.devRef .tc main_v40) : FVec Ideal S8x1x65536 .f32), (U (Proc.devRef .tc main_v41) : FVec Ideal S8x1x65536 .f32), (U (Proc.devRef .tc main_v42) : FVec Ideal S8x1x65536 .f32), (U (Proc.devRef .tc main_v43) : FVec Ideal S8x1x65536 .f32), (U (Proc.devRef .tc main_v44) : FVec Ideal S8x1x65536 .f32), (U (Proc.devRef .tc main_v45) : FVec Ideal S8x1x65536 .f32), (U (Proc.devRef .tc main_v46) : FVec Ideal S8x1x65536 .f32), (U (Proc.devRef .tc main_v47) : FVec Ideal S8x1x65536 .f32), (U (Proc.devRef .tc main_v48) : FVec Ideal S8x1x65536 .f32), (U (Proc.devRef .tc main_v49) : FVec Ideal S8x1x65536 .f32)] (joins16 _ _ (by decide)) rfl rfl _ k rfl (ix3 b 0 ⟨y.val * 256 + x.val, by omega⟩) ?_).trans ?_
  · intro d hd
    fin_cases d <;> first | rfl | exact absurd rfl hd
  fin_cases k
  all_goals simp only [Fin.reduceFinMk, Matrix.cons_val]
  all_goals rw [← hU]
  all_goals simp only [hostOps0_2, List.take_succ_cons, List.take_zero]
  all_goals after_reads_simp
  all_goals try simp -implicitDefEqProofs only [StableHlo.TRef.toBuf, StableHlo.TRef.ofBuf, cast_cast, cast_eq]
  all_goals clean_types
  all_goals pointwise
  all_goals (have hx := x.isLt; have e1 : (y.val * 256 + x.val) / 256 = y.val := (by omega); have e2 : (y.val * 256 + x.val) % 256 = x.val := (by omega); simp only [e1, e2])

/-- The first layer's weights. -/
theorem h02w (o : Fin 32) (kh kw : Fin 4) :
    (after hostOps0_2 V (Proc.devRef .tc main_v51) : FVec Ideal S32x16 .f32) (ix2 o ⟨4 * kh.val + kw.val, by omega⟩)
      = (V (Proc.devRef .tc main_arg1) : FVec Ideal S32x1x4x4 .f32) (ix4 o 0 kh kw) := by
  simp only [hostOps0_2]
  after_reads_simp
  try simp -implicitDefEqProofs only [StableHlo.TRef.toBuf, StableHlo.TRef.ofBuf, cast_cast, cast_eq]
  clean_types
  pointwise

/-- The first layer's offsets. -/
theorem h02b (o : Fin 32) :
    (after hostOps0_2 V (Proc.devRef .tc main_v52) : FVec Ideal S32x1 .f32) (ix2 o 0)
      = (V (Proc.devRef .tc main_arg2) : FVec Ideal S32 .f32) (ix1 o) := by
  simp only [hostOps0_2]
  after_reads_simp
  try simp -implicitDefEqProofs only [StableHlo.TRef.toBuf, StableHlo.TRef.ofBuf, cast_cast, cast_eq]
  clean_types
  pointwise

/-- Even rows, even columns of the first layer. -/
theorem h1a (b : Fin 8) (i : Fin 32) (y x : Fin 128) :
    (after hostOps1 V (Proc.devRef .tc main_v57) : FVec Ideal S8x32x128x128 .f32) (ix4 b i y x)
      = (V (Proc.devRef .tc main_v53) : FVec Ideal S8x32x65536 .f32) (ix3 b i ⟨(2 * y.val) * 256 + 2 * x.val, by omega⟩) := by
  simp only [hostOps1]
  after_reads_simp
  try simp -implicitDefEqProofs only [StableHlo.TRef.toBuf, StableHlo.TRef.ofBuf, cast_cast, cast_eq]
  clean_types
  pointwise

/-- Even rows, odd columns. -/
theorem h1b (b : Fin 8) (i : Fin 32) (y x : Fin 128) :
    (after hostOps1 V (Proc.devRef .tc main_v58) : FVec Ideal S8x32x128x128 .f32) (ix4 b i y x)
      = (V (Proc.devRef .tc main_v53) : FVec Ideal S8x32x65536 .f32) (ix3 b i ⟨(2 * y.val) * 256 + (2 * x.val + 1), by omega⟩) := by
  simp only [hostOps1]
  after_reads_simp
  try simp -implicitDefEqProofs only [StableHlo.TRef.toBuf, StableHlo.TRef.ofBuf, cast_cast, cast_eq]
  clean_types
  pointwise
  simp only [Nat.add_comm 1]

/-- Odd rows. -/
theorem h1c (b : Fin 8) (i : Fin 32) (y : Fin 128) (x : Fin 256) :
    (after hostOps1 V (Proc.devRef .tc main_v56) : FVec Ideal S8x32x128x256 .f32) (ix4 b i y x)
      = (V (Proc.devRef .tc main_v53) : FVec Ideal S8x32x65536 .f32) (ix3 b i ⟨(2 * y.val + 1) * 256 + x.val, by omega⟩) := by
  simp only [hostOps1]
  after_reads_simp
  try simp -implicitDefEqProofs only [StableHlo.TRef.toBuf, StableHlo.TRef.ofBuf, cast_cast, cast_eq]
  clean_types
  pointwise
  simp only [Nat.add_comm 1]

/-- A border column on the left. -/
theorem h11 (hc : (V (Proc.devRef .tc main_c_0) : IVec S_ 32) = constantI S_ 32 0#32) (b : Fin 8) (i : Fin 32) (y : Fin 128) (x : Fin 129) :
    (after hostOps1_1 V (Proc.devRef .tc main_v59) : FVec Ideal S8x32x128x129 .f32) (ix4 b i y x)
      = (show EReal from if h : 1 ≤ x.val then (V (Proc.devRef .tc main_v58) : FVec Ideal S8x32x128x128 .f32) (ix4 b i y ⟨x.val - 1, by omega⟩) else 0) := by
  simp only [hostOps1_1]
  after_reads_simp
  try simp -implicitDefEqProofs only [StableHlo.TRef.toBuf, StableHlo.TRef.ofBuf, cast_cast, cast_eq]
  clean_types
  rw [hc]
  pointwise
  rw [word_zero]
  have hx := x.isLt
  by_cases h : 1 ≤ x.val
  · rw [dif_pos ⟨h, by omega⟩, dif_pos h]
  · rw [dif_neg (fun q => h q.1), dif_neg h]

/-- A border column on the right. -/
theorem h13 (hc : (V (Proc.devRef .tc main_c_1) : IVec S_ 32) = constantI S_ 32 0#32) (b : Fin 8) (i : Fin 32) (y : Fin 128) (x : Fin 129) :
    (after hostOps1_3 V (Proc.devRef .tc main_v61) : FVec Ideal S8x32x128x129 .f32) (ix4 b i y x)
      = (show EReal from if h : x.val < 128 then (V (Proc.devRef .tc main_v57) : FVec Ideal S8x32x128x128 .f32) (ix4 b i y ⟨x.val, h⟩) else 0) := by
  simp only [hostOps1_3]
  after_reads_simp
  try simp -implicitDefEqProofs only [StableHlo.TRef.toBuf, StableHlo.TRef.ofBuf, cast_cast, cast_eq]
  clean_types
  rw [hc]
  pointwise
  rw [word_zero]

theorem h15 (hc : (V (Proc.devRef .tc main_c_2) : IVec S_ 32) = constantI S_ 32 0#32) (b : Fin 8) (i : Fin 32) (y : Fin 128) (x : Fin 129) :
    (after hostOps1_5 V (Proc.devRef .tc main_v66) : FVec Ideal S8x32x128x129 .f32) (ix4 b i y x)
      = (show EReal from if h : 1 ≤ x.val then (V (Proc.devRef .tc main_v65) : FVec Ideal S8x32x128x128 .f32) (ix4 b i y ⟨x.val - 1, by omega⟩) else 0) := by
  simp only [hostOps1_5]
  after_reads_simp
  try simp -implicitDefEqProofs only [StableHlo.TRef.toBuf, StableHlo.TRef.ofBuf, cast_cast, cast_eq]
  clean_types
  rw [hc]
  pointwise
  rw [word_zero]
  have hx := x.isLt
  by_cases h : 1 ≤ x.val
  · rw [dif_pos ⟨h, by omega⟩, dif_pos h]
  · rw [dif_neg (fun q => h q.1), dif_neg h]

theorem h17 (hc : (V (Proc.devRef .tc main_c_3) : IVec S_ 32) = constantI S_ 32 0#32) (b : Fin 8) (i : Fin 32) (y : Fin 128) (x : Fin 129) :
    (after hostOps1_7 V (Proc.devRef .tc main_v68) : FVec Ideal S8x32x128x129 .f32) (ix4 b i y x)
      = (show EReal from if h : x.val < 128 then (V (Proc.devRef .tc main_v64) : FVec Ideal S8x32x128x128 .f32) (ix4 b i y ⟨x.val, h⟩) else 0) := by
  simp only [hostOps1_7]
  after_reads_simp
  try simp -implicitDefEqProofs only [StableHlo.TRef.toBuf, StableHlo.TRef.ofBuf, cast_cast, cast_eq]
  clean_types
  rw [hc]
  pointwise
  rw [word_zero]

/-- The last column dropped. -/
theorem h12 (b : Fin 8) (i : Fin 32) (y x : Fin 128) :
    (after hostOps1_2 V (Proc.devRef .tc main_v60) : FVec Ideal S8x32x128x128 .f32) (ix4 b i y x)
      = (V (Proc.devRef .tc main_v59) : FVec Ideal S8x32x128x129 .f32) (ix4 b i y ⟨x.val, by omega⟩) := by
  simp only [hostOps1_2]
  after_reads_simp
  try simp -implicitDefEqProofs only [StableHlo.TRef.toBuf, StableHlo.TRef.ofBuf, cast_cast, cast_eq]
  clean_types
  pointwise

theorem h16 (b : Fin 8) (i : Fin 32) (y x : Fin 128) :
    (after hostOps1_6 V (Proc.devRef .tc main_v67) : FVec Ideal S8x32x128x128 .f32) (ix4 b i y x)
      = (V (Proc.devRef .tc main_v66) : FVec Ideal S8x32x128x129 .f32) (ix4 b i y ⟨x.val, by omega⟩) := by
  simp only [hostOps1_6]
  after_reads_simp
  try simp -implicitDefEqProofs only [StableHlo.TRef.toBuf, StableHlo.TRef.ofBuf, cast_cast, cast_eq]
  clean_types
  pointwise

/-- The four column taps of the even rows. -/
theorem h14_0 (b : Fin 8) (i : Fin 32) (y x : Fin 128) :
    (after hostOps1_4 V (Proc.devRef .tc main_v63) : FVec Ideal S8x128x128x128 .f32) (ix4 b ⟨i.val + 32 * 0, by omega⟩ y x)
      = (V (Proc.devRef .tc main_v60) : FVec Ideal S8x32x128x128 .f32) (ix4 b i y x) := by
  simp only [hostOps1_4]
  after_reads_simp
  try simp -implicitDefEqProofs only [StableHlo.TRef.toBuf, StableHlo.TRef.ofBuf, cast_cast, cast_eq]
  clean_types
  pointwise

theorem h14_1 (b : Fin 8) (i : Fin 32) (y x : Fin 128) :
    (after hostOps1_4 V (Proc.devRef .tc main_v63) : FVec Ideal S8x128x128x128 .f32) (ix4 b ⟨i.val + 32 * 1, by omega⟩ y x)
      = (V (Proc.devRef .tc main_v57) : FVec Ideal S8x32x128x128 .f32) (ix4 b i y x) := by
  simp only [hostOps1_4]
  after_reads_simp
  try simp -implicitDefEqProofs only [StableHlo.TRef.toBuf, StableHlo.TRef.ofBuf, cast_cast, cast_eq]
  clean_types
  pointwise
  have e : i.val + 32 - 32 = i.val := by omega
  rw [dif_neg (by omega)]
  rw [dif_pos (by omega)]
  simp only [e, Fin.eta]

theorem h14_2 (b : Fin 8) (i : Fin 32) (y x : Fin 128) :
    (after hostOps1_4 V (Proc.devRef .tc main_v63) : FVec Ideal S8x128x128x128 .f32) (ix4 b ⟨i.val + 32 * 2, by omega⟩ y x)
      = (V (Proc.devRef .tc main_v58) : FVec Ideal S8x32x128x128 .f32) (ix4 b i y x) := by
  simp only [hostOps1_4]
  after_reads_simp
  try simp -implicitDefEqProofs only [StableHlo.TRef.toBuf, StableHlo.TRef.ofBuf, cast_cast, cast_eq]
  clean_types
  pointwise
  have e : i.val + 64 - 32 - 32 = i.val := by omega
  rw [dif_neg (by omega)]
  rw [dif_neg (by omega)]
  rw [dif_pos (by omega)]
  simp only [e, Fin.eta]

theorem h14_3 (b : Fin 8) (i : Fin 32) (y x : Fin 128) :
    (after hostOps1_4 V (Proc.devRef .tc main_v63) : FVec Ideal S8x128x128x128 .f32) (ix4 b ⟨i.val + 32 * 3, by omega⟩ y x)
      = (V (Proc.devRef .tc main_v61) : FVec Ideal S8x32x128x129 .f32) (ix4 b i y ⟨x.val + 1, by omega⟩) := by
  simp only [hostOps1_4]
  after_reads_simp
  try simp -implicitDefEqProofs only [StableHlo.TRef.toBuf, StableHlo.TRef.ofBuf, cast_cast, cast_eq]
  clean_types
  pointwise
  have e : i.val + 96 - 32 - 32 - 32 = i.val := by omega
  rw [dif_neg (by omega)]
  rw [dif_neg (by omega)]
  rw [dif_neg (by omega)]
  simp only [e, Fin.eta]
  after_reads_simp
  try simp -implicitDefEqProofs only [StableHlo.TRef.toBuf, StableHlo.TRef.ofBuf, cast_cast, cast_eq]
  clean_types
  pointwise
  simp only [Nat.add_comm 1]

/-- Odd rows, even columns. -/
theorem h14a (b : Fin 8) (i : Fin 32) (y x : Fin 128) :
    (after hostOps1_4 V (Proc.devRef .tc main_v64) : FVec Ideal S8x32x128x128 .f32) (ix4 b i y x)
      = (V (Proc.devRef .tc main_v56) : FVec Ideal S8x32x128x256 .f32) (ix4 b i y ⟨2 * x.val, by omega⟩) := by
  simp only [hostOps1_4]
  after_reads_simp
  try simp -implicitDefEqProofs only [StableHlo.TRef.toBuf, StableHlo.TRef.ofBuf, cast_cast, cast_eq]
  clean_types
  pointwise

/-- Odd rows, odd columns. -/
theorem h14b (b : Fin 8) (i : Fin 32) (y x : Fin 128) :
    (after hostOps1_4 V (Proc.devRef .tc main_v65) : FVec Ideal S8x32x128x128 .f32) (ix4 b i y x)
      = (V (Proc.devRef .tc main_v56) : FVec Ideal S8x32x128x256 .f32) (ix4 b i y ⟨2 * x.val + 1, by omega⟩) := by
  simp only [hostOps1_4]
  after_reads_simp
  try simp -implicitDefEqProofs only [StableHlo.TRef.toBuf, StableHlo.TRef.ofBuf, cast_cast, cast_eq]
  clean_types
  pointwise
  simp only [Nat.add_comm 1]

/-- The four column taps of the odd rows. -/
theorem h18_0 (b : Fin 8) (i : Fin 32) (y x : Fin 128) :
    (after hostOps1_8 V (Proc.devRef .tc main_v70) : FVec Ideal S8x128x128x128 .f32) (ix4 b ⟨i.val + 32 * 0, by omega⟩ y x)
      = (V (Proc.devRef .tc main_v67) : FVec Ideal S8x32x128x128 .f32) (ix4 b i y x) := by
  simp only [hostOps1_8]
  after_reads_simp
  try simp -implicitDefEqProofs only [StableHlo.TRef.toBuf, StableHlo.TRef.ofBuf, cast_cast, cast_eq]
  clean_types
  pointwise

theorem h18_1 (b : Fin 8) (i : Fin 32) (y x : Fin 128) :
    (after hostOps1_8 V (Proc.devRef .tc main_v70) : FVec Ideal S8x128x128x128 .f32) (ix4 b ⟨i.val + 32 * 1, by omega⟩ y x)
      = (V (Proc.devRef .tc main_v64) : FVec Ideal S8x32x128x128 .f32) (ix4 b i y x) := by
  simp only [hostOps1_8]
  after_reads_simp
  try simp -implicitDefEqProofs only [StableHlo.TRef.toBuf, StableHlo.TRef.ofBuf, cast_cast, cast_eq]
  clean_types
  pointwise
  have e : i.val + 32 - 32 = i.val := by omega
  rw [dif_neg (by omega)]
  rw [dif_pos (by omega)]
  simp only [e, Fin.eta]

theorem h18_2 (b : Fin 8) (i : Fin 32) (y x : Fin 128) :
    (after hostOps1_8 V (Proc.devRef .tc main_v70) : FVec Ideal S8x128x128x128 .f32) (ix4 b ⟨i.val + 32 * 2, by omega⟩ y x)
      = (V (Proc.devRef .tc main_v65) : FVec Ideal S8x32x128x128 .f32) (ix4 b i y x) := by
  simp only [hostOps1_8]
  after_reads_simp
  try simp -implicitDefEqProofs only [StableHlo.TRef.toBuf, StableHlo.TRef.ofBuf, cast_cast, cast_eq]
  clean_types
  pointwise
  have e : i.val + 64 - 32 - 32 = i.val := by omega
  rw [dif_neg (by omega)]
  rw [dif_neg (by omega)]
  rw [dif_pos (by omega)]
  simp only [e, Fin.eta]

theorem h18_3 (b : Fin 8) (i : Fin 32) (y x : Fin 128) :
    (after hostOps1_8 V (Proc.devRef .tc main_v70) : FVec Ideal S8x128x128x128 .f32) (ix4 b ⟨i.val + 32 * 3, by omega⟩ y x)
      = (V (Proc.devRef .tc main_v68) : FVec Ideal S8x32x128x129 .f32) (ix4 b i y ⟨x.val + 1, by omega⟩) := by
  simp only [hostOps1_8]
  after_reads_simp
  try simp -implicitDefEqProofs only [StableHlo.TRef.toBuf, StableHlo.TRef.ofBuf, cast_cast, cast_eq]
  clean_types
  pointwise
  have e : i.val + 96 - 32 - 32 - 32 = i.val := by omega
  rw [dif_neg (by omega)]
  rw [dif_neg (by omega)]
  rw [dif_neg (by omega)]
  simp only [e, Fin.eta]
  after_reads_simp
  try simp -implicitDefEqProofs only [StableHlo.TRef.toBuf, StableHlo.TRef.ofBuf, cast_cast, cast_eq]
  clean_types
  pointwise
  simp only [Nat.add_comm 1]

set_option maxHeartbeats 1000000 in
/-- The second layer's weights, one kernel row at a time. -/
theorem h18r0 (o : Fin 64) (kw : Fin 4) (i : Fin 32) :
    (after (hostOps1_8.take 42) V (Proc.devRef .tc main_v107) : FVec Ideal S1x64x128 .f32) (ix3 0 o ⟨i.val + 32 * kw.val, by omega⟩)
      = (V (Proc.devRef .tc main_arg3) : FVec Ideal S64x32x4x4 .f32) (ix4 o i 0 kw) := by
  rw [after_cut 10 (hostOps1_8.take 42)]
  generalize hU : after ((hostOps1_8.take 42).take 10) V = U
  simp only [hostOps1_8, List.take_succ_cons, List.take_zero, List.drop_succ_cons, List.drop_zero]
  after_reads_simp
  try simp -implicitDefEqProofs only [StableHlo.TRef.toBuf, StableHlo.TRef.ofBuf, cast_cast, cast_eq]
  clean_types
  pointwise
  fin_vals kw with hk
  · obtain rfl : kw = 0 := Fin.ext hk
    have hi := i.isLt
    simp only [hk, Nat.reduceMul]
    rw [dif_pos (by omega)]
    simp only [← hU, hostOps1_8, List.take_succ_cons, List.take_zero]
    after_reads_simp
    clean_types
    pointwise
  · obtain rfl : kw = 1 := Fin.ext hk
    have hi := i.isLt
    simp only [hk, Nat.reduceMul]
    have e : i.val + 32 - 32 = i.val := by omega
    rw [dif_neg (by omega), dif_pos (by omega)]
    simp only [e, Fin.eta]
    simp only [← hU, hostOps1_8, List.take_succ_cons, List.take_zero]
    after_reads_simp
    clean_types
    pointwise
  · obtain rfl : kw = 2 := Fin.ext hk
    have hi := i.isLt
    simp only [hk, Nat.reduceMul]
    have e : i.val + 64 - 32 - 32 = i.val := by omega
    rw [dif_neg (by omega), dif_neg (by omega), dif_pos (by omega)]
    simp only [e, Fin.eta]
    simp only [← hU, hostOps1_8, List.take_succ_cons, List.take_zero]
    after_reads_simp
    clean_types
    pointwise
  · obtain rfl : kw = 3 := Fin.ext hk
    have hi := i.isLt
    simp only [hk, Nat.reduceMul]
    have e : i.val + 96 - 32 - 32 - 32 = i.val := by omega
    rw [dif_neg (by omega), dif_neg (by omega), dif_neg (by omega)]
    simp only [e, Fin.eta]
    simp only [← hU, hostOps1_8, List.take_succ_cons, List.take_zero]
    after_reads_simp
    clean_types
    pointwise

set_option maxHeartbeats 1000000 in
theorem h18r1 (o : Fin 64) (kw : Fin 4) (i : Fin 32) :
    (after (hostOps1_8.take 42) V (Proc.devRef .tc main_v108) : FVec Ideal S1x64x128 .f32) (ix3 0 o ⟨i.val + 32 * kw.val, by omega⟩)
      = (V (Proc.devRef .tc main_arg3) : FVec Ideal S64x32x4x4 .f32) (ix4 o i 1 kw) := by
  rw [after_cut 19 (hostOps1_8.take 42)]
  generalize hU : after ((hostOps1_8.take 42).take 19) V = U
  simp only [hostOps1_8, List.take_succ_cons, List.take_zero, List.drop_succ_cons, List.drop_zero]
  after_reads_simp
  try simp -implicitDefEqProofs only [StableHlo.TRef.toBuf, StableHlo.TRef.ofBuf, cast_cast, cast_eq]
  clean_types
  pointwise
  fin_vals kw with hk
  · obtain rfl : kw = 0 := Fin.ext hk
    have hi := i.isLt
    simp only [hk, Nat.reduceMul]
    rw [dif_pos (by omega)]
    simp only [← hU, hostOps1_8, List.take_succ_cons, List.take_zero]
    after_reads_simp
    clean_types
    pointwise
  · obtain rfl : kw = 1 := Fin.ext hk
    have hi := i.isLt
    simp only [hk, Nat.reduceMul]
    have e : i.val + 32 - 32 = i.val := by omega
    rw [dif_neg (by omega), dif_pos (by omega)]
    simp only [e, Fin.eta]
    simp only [← hU, hostOps1_8, List.take_succ_cons, List.take_zero]
    after_reads_simp
    clean_types
    pointwise
  · obtain rfl : kw = 2 := Fin.ext hk
    have hi := i.isLt
    simp only [hk, Nat.reduceMul]
    have e : i.val + 64 - 32 - 32 = i.val := by omega
    rw [dif_neg (by omega), dif_neg (by omega), dif_pos (by omega)]
    simp only [e, Fin.eta]
    simp only [← hU, hostOps1_8, List.take_succ_cons, List.take_zero]
    after_reads_simp
    clean_types
    pointwise
  · obtain rfl : kw = 3 := Fin.ext hk
    have hi := i.isLt
    simp only [hk, Nat.reduceMul]
    have e : i.val + 96 - 32 - 32 - 32 = i.val := by omega
    rw [dif_neg (by omega), dif_neg (by omega), dif_neg (by omega)]
    simp only [e, Fin.eta]
    simp only [← hU, hostOps1_8, List.take_succ_cons, List.take_zero]
    after_reads_simp
    clean_types
    pointwise

set_option maxHeartbeats 1000000 in
theorem h18r2 (o : Fin 64) (kw : Fin 4) (i : Fin 32) :
    (after (hostOps1_8.take 42) V (Proc.devRef .tc main_v109) : FVec Ideal S1x64x128 .f32) (ix3 0 o ⟨i.val + 32 * kw.val, by omega⟩)
      = (V (Proc.devRef .tc main_arg3) : FVec Ideal S64x32x4x4 .f32) (ix4 o i 2 kw) := by
  rw [after_cut 28 (hostOps1_8.take 42)]
  generalize hU : after ((hostOps1_8.take 42).take 28) V = U
  simp only [hostOps1_8, List.take_succ_cons, List.take_zero, List.drop_succ_cons, List.drop_zero]
  after_reads_simp
  try simp -implicitDefEqProofs only [StableHlo.TRef.toBuf, StableHlo.TRef.ofBuf, cast_cast, cast_eq]
  clean_types
  pointwise
  fin_vals kw with hk
  · obtain rfl : kw = 0 := Fin.ext hk
    have hi := i.isLt
    simp only [hk, Nat.reduceMul]
    rw [dif_pos (by omega)]
    simp only [← hU, hostOps1_8, List.take_succ_cons, List.take_zero]
    after_reads_simp
    clean_types
    pointwise
  · obtain rfl : kw = 1 := Fin.ext hk
    have hi := i.isLt
    simp only [hk, Nat.reduceMul]
    have e : i.val + 32 - 32 = i.val := by omega
    rw [dif_neg (by omega), dif_pos (by omega)]
    simp only [e, Fin.eta]
    simp only [← hU, hostOps1_8, List.take_succ_cons, List.take_zero]
    after_reads_simp
    clean_types
    pointwise
  · obtain rfl : kw = 2 := Fin.ext hk
    have hi := i.isLt
    simp only [hk, Nat.reduceMul]
    have e : i.val + 64 - 32 - 32 = i.val := by omega
    rw [dif_neg (by omega), dif_neg (by omega), dif_pos (by omega)]
    simp only [e, Fin.eta]
    simp only [← hU, hostOps1_8, List.take_succ_cons, List.take_zero]
    after_reads_simp
    clean_types
    pointwise
  · obtain rfl : kw = 3 := Fin.ext hk
    have hi := i.isLt
    simp only [hk, Nat.reduceMul]
    have e : i.val + 96 - 32 - 32 - 32 = i.val := by omega
    rw [dif_neg (by omega), dif_neg (by omega), dif_neg (by omega)]
    simp only [e, Fin.eta]
    simp only [← hU, hostOps1_8, List.take_succ_cons, List.take_zero]
    after_reads_simp
    clean_types
    pointwise

set_option maxHeartbeats 1000000 in
theorem h18r3 (o : Fin 64) (kw : Fin 4) (i : Fin 32) :
    (after (hostOps1_8.take 42) V (Proc.devRef .tc main_v110) : FVec Ideal S1x64x128 .f32) (ix3 0 o ⟨i.val + 32 * kw.val, by omega⟩)
      = (V (Proc.devRef .tc main_arg3) : FVec Ideal S64x32x4x4 .f32) (ix4 o i 3 kw) := by
  rw [after_cut 37 (hostOps1_8.take 42)]
  generalize hU : after ((hostOps1_8.take 42).take 37) V = U
  simp only [hostOps1_8, List.take_succ_cons, List.take_zero, List.drop_succ_cons, List.drop_zero]
  after_reads_simp
  try simp -implicitDefEqProofs only [StableHlo.TRef.toBuf, StableHlo.TRef.ofBuf, cast_cast, cast_eq]
  clean_types
  pointwise
  fin_vals kw with hk
  · obtain rfl : kw = 0 := Fin.ext hk
    have hi := i.isLt
    simp only [hk, Nat.reduceMul]
    rw [dif_pos (by omega)]
    simp only [← hU, hostOps1_8, List.take_succ_cons, List.take_zero]
    after_reads_simp
    clean_types
    pointwise
  · obtain rfl : kw = 1 := Fin.ext hk
    have hi := i.isLt
    simp only [hk, Nat.reduceMul]
    have e : i.val + 32 - 32 = i.val := by omega
    rw [dif_neg (by omega), dif_pos (by omega)]
    simp only [e, Fin.eta]
    simp only [← hU, hostOps1_8, List.take_succ_cons, List.take_zero]
    after_reads_simp
    clean_types
    pointwise
  · obtain rfl : kw = 2 := Fin.ext hk
    have hi := i.isLt
    simp only [hk, Nat.reduceMul]
    have e : i.val + 64 - 32 - 32 = i.val := by omega
    rw [dif_neg (by omega), dif_neg (by omega), dif_pos (by omega)]
    simp only [e, Fin.eta]
    simp only [← hU, hostOps1_8, List.take_succ_cons, List.take_zero]
    after_reads_simp
    clean_types
    pointwise
  · obtain rfl : kw = 3 := Fin.ext hk
    have hi := i.isLt
    simp only [hk, Nat.reduceMul]
    have e : i.val + 96 - 32 - 32 - 32 = i.val := by omega
    rw [dif_neg (by omega), dif_neg (by omega), dif_neg (by omega)]
    simp only [e, Fin.eta]
    simp only [← hU, hostOps1_8, List.take_succ_cons, List.take_zero]
    after_reads_simp
    clean_types
    pointwise

/-- The second layer's weights. -/
theorem h18w (kh kw : Fin 4) (o : Fin 64) (i : Fin 32) :
    (after hostOps1_8 V (Proc.devRef .tc main_v111) : FVec Ideal S4x64x128 .f32) (ix3 kh o ⟨i.val + 32 * kw.val, by omega⟩)
      = (V (Proc.devRef .tc main_arg3) : FVec Ideal S64x32x4x4 .f32) (ix4 o i kh kw) := by
  rw [after_cut 42 hostOps1_8]
  have h0 := h18r0 V o kw i
  have h1 := h18r1 V o kw i
  have h2 := h18r2 V o kw i
  have h3 := h18r3 V o kw i
  generalize after (hostOps1_8.take 42) V = U at *
  simp only [hostOps1_8, List.drop_succ_cons, List.drop_zero]
  after_reads_simp
  try simp -implicitDefEqProofs only [StableHlo.TRef.toBuf, StableHlo.TRef.ofBuf, cast_cast, cast_eq]
  clean_types
  pointwise
  fin_vals kh with hk
  all_goals simp only [hk, Nat.reduceSub, Nat.reduceLT, ↓reduceDIte]
  · obtain rfl : kh = 0 := Fin.ext hk
    exact h0
  · obtain rfl : kh = 1 := Fin.ext hk
    exact h1
  · obtain rfl : kh = 2 := Fin.ext hk
    exact h2
  · obtain rfl : kh = 3 := Fin.ext hk
    exact h3

/-- The second layer's offsets. -/
theorem h18b (o : Fin 64) :
    (after hostOps1_8 V (Proc.devRef .tc main_v112) : FVec Ideal S64x1 .f32) (ix2 o 0)
      = (V (Proc.devRef .tc main_arg4) : FVec Ideal S64 .f32) (ix1 o) := by
  simp only [hostOps1_8]
  after_reads_simp
  try simp -implicitDefEqProofs only [StableHlo.TRef.toBuf, StableHlo.TRef.ofBuf, cast_cast, cast_eq]
  clean_types
  pointwise

end Cert.KernelIdeal.Value
-- ==== Proof.KDecode.lean ====
module

public import proofs.«01_k».proof.Proof.Blocks
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! What the two decoder kernels store, entry by entry: a transposed convolution of the block they read. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net

/-- The first decoder kernel's block: phase `(p, q)`, channel `o`, row `r`, column `s`. -/
theorem dec1_block (x0 : Vec Ideal S1x64x16384 .f32) (x1 : Vec Ideal S16x32x64 .f32) (x2 : Vec Ideal S32x1 .f32) (y : S1x4x32x16384.Idx)
    (p q : Fin 2) (o : Fin 32) (r s : Fin 128) (hp : (y 1).val = 2 * p.val + q.val) (ho : (y 2).val = o.val) (hl : (y 3).val = r.val * 128 + s.val)
    (X : Fin 64 → Fin 128 → Fin 128 → EReal) (W : Fin 64 → Fin 4 → Fin 4 → EReal)
    (hX : ∀ (i : Fin 64) (r s : Fin 128), x0 (ix3 0 i ⟨r.val * 128 + s.val, by omega⟩) = X i r s)
    (hW : ∀ (i : Fin 64) (kh kw : Fin 4), x1 (ix3 ⟨4 * kh.val + kw.val, by omega⟩ o i) = W i kh kw) :
    out3_3 (F := Ideal) x0 x1 x2 y = max (tconv W (x2 (ix2 o 0)) X p q r.val s.val) 0 := by
  have hd : (r.val * 128 + s.val) / 128 = r.val := by omega
  have hm : (r.val * 128 + s.val) % 128 = s.val := by omega
  rw [tconv_taps]
  unfold_out out3_3
  canon_tiles x h
  case piece0 =>
    obtain rfl : p = 1 := by apply Fin.ext; show p.val = 1; omega
    obtain rfl : q = 1 := by apply Fin.ext; show q.val = 1; omega
    open_payloads
    pointwise
    have e2 : x 2 = o := Fin.ext (by omega)
    have e3 : x 3 = (⟨r.val * 128 + s.val, by omega⟩ : Fin 16384) := Fin.ext (by simp; omega)
    simp only [e2, e3, hd, hm]
    refine congrArg₂ max (add5 ?_ ?_ ?_ ?_ rfl) rfl
    · refine Finset.sum_congr rfl fun i _ => congrArg₂ (fun a b : EReal => a * b) (hW i 0 0) ?_
      split_ifs
      all_goals first
        | exact (hX i ⟨1 + r.val, by omega⟩ ⟨1 + s.val, by omega⟩).trans (px_in (X i) (r.val + 1 + 1 - 0) (s.val + 1 + 1 - 0) ⟨1 + r.val, by omega⟩ ⟨1 + s.val, by omega⟩ (by show r.val + 1 + 1 - 0 = 1 + r.val + 1; omega) (by show s.val + 1 + 1 - 0 = 1 + s.val + 1; omega)).symm
        | exact (px_out (X i) (r.val + 1 + 1 - 0) (s.val + 1 + 1 - 0) (by omega)).symm
    · refine Finset.sum_congr rfl fun i _ => congrArg₂ (fun a b : EReal => a * b) (hW i 0 2) ?_
      split_ifs
      all_goals first
        | exact (hX i ⟨1 + r.val, by omega⟩ ⟨s.val, by omega⟩).trans (px_in (X i) (r.val + 1 + 1 - 0) (s.val + 1 + 1 - 1) ⟨1 + r.val, by omega⟩ ⟨s.val, by omega⟩ (by show r.val + 1 + 1 - 0 = 1 + r.val + 1; omega) (by show s.val + 1 + 1 - 1 = s.val + 1; omega)).symm
        | exact (px_out (X i) (r.val + 1 + 1 - 0) (s.val + 1 + 1 - 1) (by omega)).symm
    · refine Finset.sum_congr rfl fun i _ => congrArg₂ (fun a b : EReal => a * b) (hW i 2 0) ?_
      split_ifs
      all_goals first
        | exact (hX i ⟨r.val, by omega⟩ ⟨1 + s.val, by omega⟩).trans (px_in (X i) (r.val + 1 + 1 - 1) (s.val + 1 + 1 - 0) ⟨r.val, by omega⟩ ⟨1 + s.val, by omega⟩ (by show r.val + 1 + 1 - 1 = r.val + 1; omega) (by show s.val + 1 + 1 - 0 = 1 + s.val + 1; omega)).symm
        | exact (px_out (X i) (r.val + 1 + 1 - 1) (s.val + 1 + 1 - 0) (by omega)).symm
    · refine Finset.sum_congr rfl fun i _ => congrArg₂ (fun a b : EReal => a * b) (hW i 2 2) ?_
      exact (hX i ⟨r.val, by omega⟩ ⟨s.val, by omega⟩).trans (px_in (X i) (r.val + 1 + 1 - 1) (s.val + 1 + 1 - 1) ⟨r.val, by omega⟩ ⟨s.val, by omega⟩ (by show r.val + 1 + 1 - 1 = r.val + 1; omega) (by show s.val + 1 + 1 - 1 = s.val + 1; omega)).symm
  case piece1 =>
    obtain rfl : p = 1 := by apply Fin.ext; show p.val = 1; omega
    obtain rfl : q = 0 := by apply Fin.ext; show q.val = 0; omega
    open_payloads
    pointwise
    have e2 : x 2 = o := Fin.ext (by omega)
    have e3 : x 3 = (⟨r.val * 128 + s.val, by omega⟩ : Fin 16384) := Fin.ext (by simp; omega)
    simp only [e2, e3, hd, hm]
    refine congrArg₂ max (add5 ?_ ?_ ?_ ?_ rfl) rfl
    · refine Finset.sum_congr rfl fun i _ => congrArg₂ (fun a b : EReal => a * b) (hW i 0 1) ?_
      split_ifs
      all_goals first
        | exact (hX i ⟨1 + r.val, by omega⟩ ⟨s.val, by omega⟩).trans (px_in (X i) (r.val + 1 + 1 - 0) (s.val + 0 + 1 - 0) ⟨1 + r.val, by omega⟩ ⟨s.val, by omega⟩ (by show r.val + 1 + 1 - 0 = 1 + r.val + 1; omega) (by show s.val + 0 + 1 - 0 = s.val + 1; omega)).symm
        | exact (px_out (X i) (r.val + 1 + 1 - 0) (s.val + 0 + 1 - 0) (by omega)).symm
    · refine Finset.sum_congr rfl fun i _ => congrArg₂ (fun a b : EReal => a * b) (hW i 0 3) ?_
      split_ifs
      all_goals first
        | exact (hX i ⟨1 + r.val, by omega⟩ ⟨s.val - 1, by omega⟩).trans (px_in (X i) (r.val + 1 + 1 - 0) (s.val + 0 + 1 - 1) ⟨1 + r.val, by omega⟩ ⟨s.val - 1, by omega⟩ (by show r.val + 1 + 1 - 0 = 1 + r.val + 1; omega) (by show s.val + 0 + 1 - 1 = s.val - 1 + 1; omega)).symm
        | exact (px_out (X i) (r.val + 1 + 1 - 0) (s.val + 0 + 1 - 1) (by omega)).symm
    · refine Finset.sum_congr rfl fun i _ => congrArg₂ (fun a b : EReal => a * b) (hW i 2 1) ?_
      exact (hX i ⟨r.val, by omega⟩ ⟨s.val, by omega⟩).trans (px_in (X i) (r.val + 1 + 1 - 1) (s.val + 0 + 1 - 0) ⟨r.val, by omega⟩ ⟨s.val, by omega⟩ (by show r.val + 1 + 1 - 1 = r.val + 1; omega) (by show s.val + 0 + 1 - 0 = s.val + 1; omega)).symm
    · refine Finset.sum_congr rfl fun i _ => congrArg₂ (fun a b : EReal => a * b) (hW i 2 3) ?_
      split_ifs
      all_goals first
        | exact (hX i ⟨r.val, by omega⟩ ⟨s.val - 1, by omega⟩).trans (px_in (X i) (r.val + 1 + 1 - 1) (s.val + 0 + 1 - 1) ⟨r.val, by omega⟩ ⟨s.val - 1, by omega⟩ (by show r.val + 1 + 1 - 1 = r.val + 1; omega) (by show s.val + 0 + 1 - 1 = s.val - 1 + 1; omega)).symm
        | exact (px_out (X i) (r.val + 1 + 1 - 1) (s.val + 0 + 1 - 1) (by omega)).symm
  case piece2 =>
    obtain rfl : p = 0 := by apply Fin.ext; show p.val = 0; omega
    obtain rfl : q = 1 := by apply Fin.ext; show q.val = 1; omega
    open_payloads
    pointwise
    have e2 : x 2 = o := Fin.ext (by omega)
    have e3 : x 3 = (⟨r.val * 128 + s.val, by omega⟩ : Fin 16384) := Fin.ext (by simp; omega)
    simp only [e2, e3, hd, hm]
    refine congrArg₂ max (add5 ?_ ?_ ?_ ?_ rfl) rfl
    · refine Finset.sum_congr rfl fun i _ => congrArg₂ (fun a b : EReal => a * b) (hW i 1 0) ?_
      split_ifs
      all_goals first
        | exact (hX i ⟨r.val, by omega⟩ ⟨1 + s.val, by omega⟩).trans (px_in (X i) (r.val + 0 + 1 - 0) (s.val + 1 + 1 - 0) ⟨r.val, by omega⟩ ⟨1 + s.val, by omega⟩ (by show r.val + 0 + 1 - 0 = r.val + 1; omega) (by show s.val + 1 + 1 - 0 = 1 + s.val + 1; omega)).symm
        | exact (px_out (X i) (r.val + 0 + 1 - 0) (s.val + 1 + 1 - 0) (by omega)).symm
    · refine Finset.sum_congr rfl fun i _ => congrArg₂ (fun a b : EReal => a * b) (hW i 1 2) ?_
      exact (hX i ⟨r.val, by omega⟩ ⟨s.val, by omega⟩).trans (px_in (X i) (r.val + 0 + 1 - 0) (s.val + 1 + 1 - 1) ⟨r.val, by omega⟩ ⟨s.val, by omega⟩ (by show r.val + 0 + 1 - 0 = r.val + 1; omega) (by show s.val + 1 + 1 - 1 = s.val + 1; omega)).symm
    · refine Finset.sum_congr rfl fun i _ => congrArg₂ (fun a b : EReal => a * b) (hW i 3 0) ?_
      split_ifs
      all_goals first
        | exact (hX i ⟨r.val - 1, by omega⟩ ⟨1 + s.val, by omega⟩).trans (px_in (X i) (r.val + 0 + 1 - 1) (s.val + 1 + 1 - 0) ⟨r.val - 1, by omega⟩ ⟨1 + s.val, by omega⟩ (by show r.val + 0 + 1 - 1 = r.val - 1 + 1; omega) (by show s.val + 1 + 1 - 0 = 1 + s.val + 1; omega)).symm
        | exact (px_out (X i) (r.val + 0 + 1 - 1) (s.val + 1 + 1 - 0) (by omega)).symm
    · refine Finset.sum_congr rfl fun i _ => congrArg₂ (fun a b : EReal => a * b) (hW i 3 2) ?_
      split_ifs
      all_goals first
        | exact (hX i ⟨r.val - 1, by omega⟩ ⟨s.val, by omega⟩).trans (px_in (X i) (r.val + 0 + 1 - 1) (s.val + 1 + 1 - 1) ⟨r.val - 1, by omega⟩ ⟨s.val, by omega⟩ (by show r.val + 0 + 1 - 1 = r.val - 1 + 1; omega) (by show s.val + 1 + 1 - 1 = s.val + 1; omega)).symm
        | exact (px_out (X i) (r.val + 0 + 1 - 1) (s.val + 1 + 1 - 1) (by omega)).symm
  case piece3 =>
    obtain rfl : p = 0 := by apply Fin.ext; show p.val = 0; omega
    obtain rfl : q = 0 := by apply Fin.ext; show q.val = 0; omega
    open_payloads
    pointwise
    have e2 : x 2 = o := Fin.ext (by omega)
    have e3 : x 3 = (⟨r.val * 128 + s.val, by omega⟩ : Fin 16384) := Fin.ext (by simp; omega)
    simp only [e2, e3, hd, hm]
    refine congrArg₂ max (add5 ?_ ?_ ?_ ?_ rfl) rfl
    · refine Finset.sum_congr rfl fun i _ => congrArg₂ (fun a b : EReal => a * b) (hW i 1 1) ?_
      exact (hX i ⟨r.val, by omega⟩ ⟨s.val, by omega⟩).trans (px_in (X i) (r.val + 0 + 1 - 0) (s.val + 0 + 1 - 0) ⟨r.val, by omega⟩ ⟨s.val, by omega⟩ (by show r.val + 0 + 1 - 0 = r.val + 1; omega) (by show s.val + 0 + 1 - 0 = s.val + 1; omega)).symm
    · refine Finset.sum_congr rfl fun i _ => congrArg₂ (fun a b : EReal => a * b) (hW i 1 3) ?_
      split_ifs
      all_goals first
        | exact (hX i ⟨r.val, by omega⟩ ⟨s.val - 1, by omega⟩).trans (px_in (X i) (r.val + 0 + 1 - 0) (s.val + 0 + 1 - 1) ⟨r.val, by omega⟩ ⟨s.val - 1, by omega⟩ (by show r.val + 0 + 1 - 0 = r.val + 1; omega) (by show s.val + 0 + 1 - 1 = s.val - 1 + 1; omega)).symm
        | exact (px_out (X i) (r.val + 0 + 1 - 0) (s.val + 0 + 1 - 1) (by omega)).symm
    · refine Finset.sum_congr rfl fun i _ => congrArg₂ (fun a b : EReal => a * b) (hW i 3 1) ?_
      split_ifs
      all_goals first
        | exact (hX i ⟨r.val - 1, by omega⟩ ⟨s.val, by omega⟩).trans (px_in (X i) (r.val + 0 + 1 - 1) (s.val + 0 + 1 - 0) ⟨r.val - 1, by omega⟩ ⟨s.val, by omega⟩ (by show r.val + 0 + 1 - 1 = r.val - 1 + 1; omega) (by show s.val + 0 + 1 - 0 = s.val + 1; omega)).symm
        | exact (px_out (X i) (r.val + 0 + 1 - 1) (s.val + 0 + 1 - 0) (by omega)).symm
    · refine Finset.sum_congr rfl fun i _ => congrArg₂ (fun a b : EReal => a * b) (hW i 3 3) ?_
      split_ifs
      all_goals first
        | exact (hX i ⟨r.val - 1, by omega⟩ ⟨s.val - 1, by omega⟩).trans (px_in (X i) (r.val + 0 + 1 - 1) (s.val + 0 + 1 - 1) ⟨r.val - 1, by omega⟩ ⟨s.val - 1, by omega⟩ (by show r.val + 0 + 1 - 1 = r.val - 1 + 1; omega) (by show s.val + 0 + 1 - 1 = s.val - 1 + 1; omega)).symm
        | exact (px_out (X i) (r.val + 0 + 1 - 1) (s.val + 0 + 1 - 1) (by omega)).symm

/-- The second decoder kernel's block: phase `(p, q)`, row `r`, column `s`. -/
theorem dec2_block (x0 : Vec Ideal S1x32x65536 .f32) (x1 : Vec Ideal S16x32 .f32) (x2 : Vec Ideal S1x1 .f32) (y : S1x4x256x256.Idx)
    (p q : Fin 2) (r s : Fin 256) (hp : (y 1).val = 2 * p.val + q.val) (hr : (y 2).val = r.val) (hl : (y 3).val = s.val)
    (X : Fin 32 → Fin 256 → Fin 256 → EReal) (W : Fin 32 → Fin 4 → Fin 4 → EReal)
    (hX : ∀ (i : Fin 32) (r s : Fin 256), x0 (ix3 0 i ⟨r.val * 256 + s.val, by omega⟩) = X i r s)
    (hW : ∀ (i : Fin 32) (kh kw : Fin 4), x1 (ix2 ⟨4 * kh.val + kw.val, by omega⟩ i) = W i kh kw) :
    out4_3 (F := Ideal) x0 x1 x2 y = Ideal.logistic (tconv W (x2 (ix2 0 0)) X p q r.val s.val) := by
  rw [tconv_taps]
  unfold_out out4_3
  canon_tiles x h
  case piece0 =>
    obtain rfl : p = 1 := by apply Fin.ext; show p.val = 1; omega
    obtain rfl : q = 1 := by apply Fin.ext; show q.val = 1; omega
    open_payloads
    pointwise
    have e2 : x 2 = r := Fin.ext (by omega)
    have e3 : x 3 = s := Fin.ext (by omega)
    simp only [e2, e3]
    refine congrArg Ideal.logistic (add5 ?_ ?_ ?_ ?_ rfl)
    · split_ifs
      all_goals first
        | exact (ttap_out W X 1 1 0 0 r.val s.val (by show r.val + 1 + 1 - 0 = 0 ∨ 256 < r.val + 1 + 1 - 0 ∨ s.val + 1 + 1 - 0 = 0 ∨ 256 < s.val + 1 + 1 - 0; omega)).symm
        | refine Eq.trans ?_ (ttap_in W X 1 1 0 0 r.val s.val 0 0 ⟨1 + r.val, by omega⟩ ⟨1 + s.val, by omega⟩ (by decide) (by decide) (by show r.val + 1 + 1 - 0 = 1 + r.val + 1; omega) (by show s.val + 1 + 1 - 0 = 1 + s.val + 1; omega)).symm
          exact Finset.sum_congr rfl fun i _ => congrArg₂ (fun a b : EReal => a * b) (hW i 0 0) (hX i ⟨1 + r.val, by omega⟩ ⟨1 + s.val, by omega⟩)
    · split_ifs
      all_goals first
        | exact (ttap_out W X 1 1 0 1 r.val s.val (by show r.val + 1 + 1 - 0 = 0 ∨ 256 < r.val + 1 + 1 - 0 ∨ s.val + 1 + 1 - 1 = 0 ∨ 256 < s.val + 1 + 1 - 1; omega)).symm
        | refine Eq.trans ?_ (ttap_in W X 1 1 0 1 r.val s.val 0 2 ⟨1 + r.val, by omega⟩ ⟨s.val, by omega⟩ (by decide) (by decide) (by show r.val + 1 + 1 - 0 = 1 + r.val + 1; omega) (by show s.val + 1 + 1 - 1 = s.val + 1; omega)).symm
          exact Finset.sum_congr rfl fun i _ => congrArg₂ (fun a b : EReal => a * b) (hW i 0 2) (hX i ⟨1 + r.val, by omega⟩ ⟨s.val, by omega⟩)
    · split_ifs
      all_goals first
        | exact (ttap_out W X 1 1 1 0 r.val s.val (by show r.val + 1 + 1 - 1 = 0 ∨ 256 < r.val + 1 + 1 - 1 ∨ s.val + 1 + 1 - 0 = 0 ∨ 256 < s.val + 1 + 1 - 0; omega)).symm
        | refine Eq.trans ?_ (ttap_in W X 1 1 1 0 r.val s.val 2 0 ⟨r.val, by omega⟩ ⟨1 + s.val, by omega⟩ (by decide) (by decide) (by show r.val + 1 + 1 - 1 = r.val + 1; omega) (by show s.val + 1 + 1 - 0 = 1 + s.val + 1; omega)).symm
          exact Finset.sum_congr rfl fun i _ => congrArg₂ (fun a b : EReal => a * b) (hW i 2 0) (hX i ⟨r.val, by omega⟩ ⟨1 + s.val, by omega⟩)
    · refine Eq.trans ?_ (ttap_in W X 1 1 1 1 r.val s.val 2 2 ⟨r.val, by omega⟩ ⟨s.val, by omega⟩ (by decide) (by decide) (by show r.val + 1 + 1 - 1 = r.val + 1; omega) (by show s.val + 1 + 1 - 1 = s.val + 1; omega)).symm
      exact Finset.sum_congr rfl fun i _ => congrArg₂ (fun a b : EReal => a * b) (hW i 2 2) (hX i ⟨r.val, by omega⟩ ⟨s.val, by omega⟩)
  case piece1 =>
    obtain rfl : p = 1 := by apply Fin.ext; show p.val = 1; omega
    obtain rfl : q = 0 := by apply Fin.ext; show q.val = 0; omega
    open_payloads
    pointwise
    have e2 : x 2 = r := Fin.ext (by omega)
    have e3 : x 3 = s := Fin.ext (by omega)
    simp only [e2, e3]
    refine congrArg Ideal.logistic (add5 ?_ ?_ ?_ ?_ rfl)
    · split_ifs
      all_goals first
        | exact (ttap_out W X 1 0 0 0 r.val s.val (by show r.val + 1 + 1 - 0 = 0 ∨ 256 < r.val + 1 + 1 - 0 ∨ s.val + 0 + 1 - 0 = 0 ∨ 256 < s.val + 0 + 1 - 0; omega)).symm
        | refine Eq.trans ?_ (ttap_in W X 1 0 0 0 r.val s.val 0 1 ⟨1 + r.val, by omega⟩ ⟨s.val, by omega⟩ (by decide) (by decide) (by show r.val + 1 + 1 - 0 = 1 + r.val + 1; omega) (by show s.val + 0 + 1 - 0 = s.val + 1; omega)).symm
          exact Finset.sum_congr rfl fun i _ => congrArg₂ (fun a b : EReal => a * b) (hW i 0 1) (hX i ⟨1 + r.val, by omega⟩ ⟨s.val, by omega⟩)
    · split_ifs
      all_goals first
        | exact (ttap_out W X 1 0 0 1 r.val s.val (by show r.val + 1 + 1 - 0 = 0 ∨ 256 < r.val + 1 + 1 - 0 ∨ s.val + 0 + 1 - 1 = 0 ∨ 256 < s.val + 0 + 1 - 1; omega)).symm
        | refine Eq.trans ?_ (ttap_in W X 1 0 0 1 r.val s.val 0 3 ⟨1 + r.val, by omega⟩ ⟨s.val - 1, by omega⟩ (by decide) (by decide) (by show r.val + 1 + 1 - 0 = 1 + r.val + 1; omega) (by show s.val + 0 + 1 - 1 = s.val - 1 + 1; omega)).symm
          exact Finset.sum_congr rfl fun i _ => congrArg₂ (fun a b : EReal => a * b) (hW i 0 3) (hX i ⟨1 + r.val, by omega⟩ ⟨s.val - 1, by omega⟩)
    · refine Eq.trans ?_ (ttap_in W X 1 0 1 0 r.val s.val 2 1 ⟨r.val, by omega⟩ ⟨s.val, by omega⟩ (by decide) (by decide) (by show r.val + 1 + 1 - 1 = r.val + 1; omega) (by show s.val + 0 + 1 - 0 = s.val + 1; omega)).symm
      exact Finset.sum_congr rfl fun i _ => congrArg₂ (fun a b : EReal => a * b) (hW i 2 1) (hX i ⟨r.val, by omega⟩ ⟨s.val, by omega⟩)
    · split_ifs
      all_goals first
        | exact (ttap_out W X 1 0 1 1 r.val s.val (by show r.val + 1 + 1 - 1 = 0 ∨ 256 < r.val + 1 + 1 - 1 ∨ s.val + 0 + 1 - 1 = 0 ∨ 256 < s.val + 0 + 1 - 1; omega)).symm
        | refine Eq.trans ?_ (ttap_in W X 1 0 1 1 r.val s.val 2 3 ⟨r.val, by omega⟩ ⟨s.val - 1, by omega⟩ (by decide) (by decide) (by show r.val + 1 + 1 - 1 = r.val + 1; omega) (by show s.val + 0 + 1 - 1 = s.val - 1 + 1; omega)).symm
          exact Finset.sum_congr rfl fun i _ => congrArg₂ (fun a b : EReal => a * b) (hW i 2 3) (hX i ⟨r.val, by omega⟩ ⟨s.val - 1, by omega⟩)
  case piece2 =>
    obtain rfl : p = 0 := by apply Fin.ext; show p.val = 0; omega
    obtain rfl : q = 1 := by apply Fin.ext; show q.val = 1; omega
    open_payloads
    pointwise
    have e2 : x 2 = r := Fin.ext (by omega)
    have e3 : x 3 = s := Fin.ext (by omega)
    simp only [e2, e3]
    refine congrArg Ideal.logistic (add5 ?_ ?_ ?_ ?_ rfl)
    · split_ifs
      all_goals first
        | exact (ttap_out W X 0 1 0 0 r.val s.val (by show r.val + 0 + 1 - 0 = 0 ∨ 256 < r.val + 0 + 1 - 0 ∨ s.val + 1 + 1 - 0 = 0 ∨ 256 < s.val + 1 + 1 - 0; omega)).symm
        | refine Eq.trans ?_ (ttap_in W X 0 1 0 0 r.val s.val 1 0 ⟨r.val, by omega⟩ ⟨1 + s.val, by omega⟩ (by decide) (by decide) (by show r.val + 0 + 1 - 0 = r.val + 1; omega) (by show s.val + 1 + 1 - 0 = 1 + s.val + 1; omega)).symm
          exact Finset.sum_congr rfl fun i _ => congrArg₂ (fun a b : EReal => a * b) (hW i 1 0) (hX i ⟨r.val, by omega⟩ ⟨1 + s.val, by omega⟩)
    · refine Eq.trans ?_ (ttap_in W X 0 1 0 1 r.val s.val 1 2 ⟨r.val, by omega⟩ ⟨s.val, by omega⟩ (by decide) (by decide) (by show r.val + 0 + 1 - 0 = r.val + 1; omega) (by show s.val + 1 + 1 - 1 = s.val + 1; omega)).symm
      exact Finset.sum_congr rfl fun i _ => congrArg₂ (fun a b : EReal => a * b) (hW i 1 2) (hX i ⟨r.val, by omega⟩ ⟨s.val, by omega⟩)
    · split_ifs
      all_goals first
        | exact (ttap_out W X 0 1 1 0 r.val s.val (by show r.val + 0 + 1 - 1 = 0 ∨ 256 < r.val + 0 + 1 - 1 ∨ s.val + 1 + 1 - 0 = 0 ∨ 256 < s.val + 1 + 1 - 0; omega)).symm
        | refine Eq.trans ?_ (ttap_in W X 0 1 1 0 r.val s.val 3 0 ⟨r.val - 1, by omega⟩ ⟨1 + s.val, by omega⟩ (by decide) (by decide) (by show r.val + 0 + 1 - 1 = r.val - 1 + 1; omega) (by show s.val + 1 + 1 - 0 = 1 + s.val + 1; omega)).symm
          exact Finset.sum_congr rfl fun i _ => congrArg₂ (fun a b : EReal => a * b) (hW i 3 0) (hX i ⟨r.val - 1, by omega⟩ ⟨1 + s.val, by omega⟩)
    · split_ifs
      all_goals first
        | exact (ttap_out W X 0 1 1 1 r.val s.val (by show r.val + 0 + 1 - 1 = 0 ∨ 256 < r.val + 0 + 1 - 1 ∨ s.val + 1 + 1 - 1 = 0 ∨ 256 < s.val + 1 + 1 - 1; omega)).symm
        | refine Eq.trans ?_ (ttap_in W X 0 1 1 1 r.val s.val 3 2 ⟨r.val - 1, by omega⟩ ⟨s.val, by omega⟩ (by decide) (by decide) (by show r.val + 0 + 1 - 1 = r.val - 1 + 1; omega) (by show s.val + 1 + 1 - 1 = s.val + 1; omega)).symm
          exact Finset.sum_congr rfl fun i _ => congrArg₂ (fun a b : EReal => a * b) (hW i 3 2) (hX i ⟨r.val - 1, by omega⟩ ⟨s.val, by omega⟩)
  case piece3 =>
    obtain rfl : p = 0 := by apply Fin.ext; show p.val = 0; omega
    obtain rfl : q = 0 := by apply Fin.ext; show q.val = 0; omega
    open_payloads
    pointwise
    have e2 : x 2 = r := Fin.ext (by omega)
    have e3 : x 3 = s := Fin.ext (by omega)
    simp only [e2, e3]
    refine congrArg Ideal.logistic (add5 ?_ ?_ ?_ ?_ rfl)
    · refine Eq.trans ?_ (ttap_in W X 0 0 0 0 r.val s.val 1 1 ⟨r.val, by omega⟩ ⟨s.val, by omega⟩ (by decide) (by decide) (by show r.val + 0 + 1 - 0 = r.val + 1; omega) (by show s.val + 0 + 1 - 0 = s.val + 1; omega)).symm
      exact Finset.sum_congr rfl fun i _ => congrArg₂ (fun a b : EReal => a * b) (hW i 1 1) (hX i ⟨r.val, by omega⟩ ⟨s.val, by omega⟩)
    · split_ifs
      all_goals first
        | exact (ttap_out W X 0 0 0 1 r.val s.val (by show r.val + 0 + 1 - 0 = 0 ∨ 256 < r.val + 0 + 1 - 0 ∨ s.val + 0 + 1 - 1 = 0 ∨ 256 < s.val + 0 + 1 - 1; omega)).symm
        | refine Eq.trans ?_ (ttap_in W X 0 0 0 1 r.val s.val 1 3 ⟨r.val, by omega⟩ ⟨s.val - 1, by omega⟩ (by decide) (by decide) (by show r.val + 0 + 1 - 0 = r.val + 1; omega) (by show s.val + 0 + 1 - 1 = s.val - 1 + 1; omega)).symm
          exact Finset.sum_congr rfl fun i _ => congrArg₂ (fun a b : EReal => a * b) (hW i 1 3) (hX i ⟨r.val, by omega⟩ ⟨s.val - 1, by omega⟩)
    · split_ifs
      all_goals first
        | exact (ttap_out W X 0 0 1 0 r.val s.val (by show r.val + 0 + 1 - 1 = 0 ∨ 256 < r.val + 0 + 1 - 1 ∨ s.val + 0 + 1 - 0 = 0 ∨ 256 < s.val + 0 + 1 - 0; omega)).symm
        | refine Eq.trans ?_ (ttap_in W X 0 0 1 0 r.val s.val 3 1 ⟨r.val - 1, by omega⟩ ⟨s.val, by omega⟩ (by decide) (by decide) (by show r.val + 0 + 1 - 1 = r.val - 1 + 1; omega) (by show s.val + 0 + 1 - 0 = s.val + 1; omega)).symm
          exact Finset.sum_congr rfl fun i _ => congrArg₂ (fun a b : EReal => a * b) (hW i 3 1) (hX i ⟨r.val - 1, by omega⟩ ⟨s.val, by omega⟩)
    · split_ifs
      all_goals first
        | exact (ttap_out W X 0 0 1 1 r.val s.val (by show r.val + 0 + 1 - 1 = 0 ∨ 256 < r.val + 0 + 1 - 1 ∨ s.val + 0 + 1 - 1 = 0 ∨ 256 < s.val + 0 + 1 - 1; omega)).symm
        | refine Eq.trans ?_ (ttap_in W X 0 0 1 1 r.val s.val 3 3 ⟨r.val - 1, by omega⟩ ⟨s.val - 1, by omega⟩ (by decide) (by decide) (by show r.val + 0 + 1 - 1 = r.val - 1 + 1; omega) (by show s.val + 0 + 1 - 1 = s.val - 1 + 1; omega)).symm
          exact Finset.sum_congr rfl fun i _ => congrArg₂ (fun a b : EReal => a * b) (hW i 3 3) (hX i ⟨r.val - 1, by omega⟩ ⟨s.val - 1, by omega⟩)

end Cert.KernelIdeal.Value
-- ==== Proof.KEncode.lean ====
module

public import proofs.«01_k».proof.Proof.Blocks
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! What the two encoder kernels store: the first as a whole array, the second entry by entry. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net

variable (V : (c : Dev nD) → (b : Ref sig .tc) → Buf (Elt Ideal) ((c : Thread nD τ).loc b))
def G0 (P : FVec Ideal S8x16x65536 .f32) (w : FVec Ideal S32x16 .f32) (b : FVec Ideal S32x1 .f32) : FVec Ideal S8x32x65536 .f32 :=
  fun j => max ((∑ k : Fin 16, w (ix2 (j 1) k) * P (ix3 (j 0) k (j 2)) : EReal) + b (ix2 (j 1) 0)) 0
theorem idx0 : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)
theorem final0 (c : Dev nD) : (dat0 V c).arrAt 3 cfg0.N = G0 (V c main_v50) (V c main_v51) (V c main_v52) := by
  refine (dat0 V c).arrAt_eq_of_covers 3 _ (by decide +kernel) fun t _ y => ?_
  blk_simp
  rw [after0_3]
  frame_out
  pointwise [k0_pay1, G0]
  blk_point [iblk0, idx0 t]

/-- The second encoder kernel's block: channel `o`, row `r`, column `s`. -/
theorem enc2_block (x0 x1 : Vec Ideal S1x128x128x128 .f32) (x2 : Vec Ideal S4x64x128 .f32) (x3 : Vec Ideal S64x1 .f32) (y : S1x64x16384.Idx)
    (o : Fin 64) (r s : Fin 128) (ho : (y 1).val = o.val) (hl : (y 2).val = r.val * 128 + s.val)
    (H : Fin 32 → Fin 256 → Fin 256 → EReal) (W : Fin 32 → Fin 4 → Fin 4 → EReal)
    (hE : ∀ (kw : Fin 4) (i : Fin 32) (r s : Fin 128), x0 (ix4 0 ⟨i.val + 32 * kw.val, by omega⟩ r s) = px (H i) (2 * r.val + 1) (kw.val + 2 * s.val))
    (hO : ∀ (kw : Fin 4) (i : Fin 32) (r s : Fin 128), x1 (ix4 0 ⟨i.val + 32 * kw.val, by omega⟩ r s) = px (H i) (2 * r.val + 2) (kw.val + 2 * s.val))
    (hW : ∀ (kh kw : Fin 4) (i : Fin 32), x2 (ix3 kh o ⟨i.val + 32 * kw.val, by omega⟩) = W i kh kw) :
    out1_4 (F := Ideal) x0 x1 x2 x3 y = conv W (x3 (ix2 o 0)) H r.val s.val := by
  have e1 : y 1 = o := Fin.ext ho
  have e2 : y 2 = (⟨r.val * 128 + s.val, by omega⟩ : Fin 16384) := Fin.ext hl
  have hd : (r.val * 128 + s.val) / 128 = r.val := by omega
  have hm : (r.val * 128 + s.val) % 128 = s.val := by omega
  frame_out
  pointwise [k1_pay1, k1_pay2, k1_pay3]
  simp only [e1, e2, hd, hm]
  rw [conv_rows]
  refine congrArg₂ max (add5 ?_ ?_ ?_ ?_ rfl) rfl
  · refine (sum_blocks 4 32 _).trans (Finset.sum_congr rfl fun kw _ => Finset.sum_congr rfl fun i _ => ?_)
    refine congrArg₂ (fun a b : EReal => a * b) (hW 0 kw i) ?_
    split_ifs with h
    · exact (px_out _ _ _ (by simp; omega)).symm
    · refine (hO kw i ⟨r.val - 1, by omega⟩ s).trans (congrArg (fun z => px (H i) z _) ?_)
      simp; omega
    · rename_i h'
      exact absurd rfl h'
  · refine (sum_blocks 4 32 _).trans (Finset.sum_congr rfl fun kw _ => Finset.sum_congr rfl fun i _ => ?_)
    refine congrArg₂ (fun a b : EReal => a * b) (hW 1 kw i) ((hE kw i r s).trans (congrArg (fun z => px (H i) z _) ?_))
    simp; omega
  · refine (sum_blocks 4 32 _).trans (Finset.sum_congr rfl fun kw _ => Finset.sum_congr rfl fun i _ => ?_)
    refine congrArg₂ (fun a b : EReal => a * b) (hW 2 kw i) ((hO kw i r s).trans (congrArg (fun z => px (H i) z _) ?_))
    simp; omega
  · refine (sum_blocks 4 32 _).trans (Finset.sum_congr rfl fun kw _ => Finset.sum_congr rfl fun i _ => ?_)
    refine congrArg₂ (fun a b : EReal => a * b) (hW 3 kw i) ?_
    split_ifs with h
    · refine (hE kw i ⟨1 + r.val, by omega⟩ s).trans (congrArg (fun z => px (H i) z _) ?_)
      simp; omega
    · exact (px_out _ _ _ (by simp; omega)).symm

end Cert.KernelIdeal.Value
-- ==== Proof.KArrays.lean ====
module

public import proofs.«01_k».proof.Proof.KDecode
public import proofs.«01_k».proof.Proof.KEncode
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! The arrays three of the kernels leave, over the arrays they read. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net

variable (V : (c : Dev nD) → (b : Ref sig .tc) → Buf (Elt Ideal) ((c : Thread nD τ).loc b))

/-- The block each window is at. -/
theorem idx1 : ∀ t : Fin cfg1.N, win1_0.index t = ![t.val, 0, 0, 0] ∧ win1_1.index t = ![t.val, 0, 0, 0] ∧ win1_2.index t = ![0, 0, 0] ∧ win1_3.index t = ![0, 0] ∧ win1_4.index t = ![t.val, 0, 0] :=
  (by decide +kernel : ∀ t : Fin grid1.N, _)
theorem idx3 : ∀ t : Fin cfg3.N, win3_0.index t = ![t.val, 0, 0] ∧ win3_1.index t = ![0, 0, 0] ∧ win3_2.index t = ![0, 0] ∧ win3_3.index t = ![t.val, 0, 0, 0] :=
  (by decide +kernel : ∀ t : Fin grid3.N, _)
theorem idx4 : ∀ t : Fin cfg4.N, win4_0.index t = ![t.val, 0, 0] ∧ win4_1.index t = ![0, 0] ∧ win4_2.index t = ![0, 0] ∧ win4_3.index t = ![t.val, 0, 0, 0] :=
  (by decide +kernel : ∀ t : Fin grid4.N, _)

theorem blk1_0 (c : Dev nD) (t : Fin cfg1.N) (b : Fin 8) (hb : b.val = t.val) (k r s : Fin 128) :
    (iblk1 V c 0 t) (ix4 0 k r s) = (V c main_v63 : FVec Ideal S8x128x128x128 .f32) (ix4 b k r s) := by
  blk_point [iblk1, idx1 t]
theorem blk1_1 (c : Dev nD) (t : Fin cfg1.N) (b : Fin 8) (hb : b.val = t.val) (k r s : Fin 128) :
    (iblk1 V c 1 t) (ix4 0 k r s) = (V c main_v70 : FVec Ideal S8x128x128x128 .f32) (ix4 b k r s) := by
  blk_point [iblk1, idx1 t]
theorem blk1_2 (c : Dev nD) (t : Fin cfg1.N) (k : Fin 4) (r : Fin 64) (s : Fin 128) :
    (iblk1 V c 2 t) (ix3 k r s) = (V c main_v111 : FVec Ideal S4x64x128 .f32) (ix3 k r s) := by
  blk_point [iblk1, idx1 t]
theorem blk1_3 (c : Dev nD) (t : Fin cfg1.N) (r : Fin 64) :
    (iblk1 V c 3 t) (ix2 r 0) = (V c main_v112 : FVec Ideal S64x1 .f32) (ix2 r 0) := by
  blk_point [iblk1, idx1 t]
theorem blk3_0 (c : Dev nD) (t : Fin cfg3.N) (b : Fin 8) (hb : b.val = t.val) (k : Fin 64) (r : Fin 16384) :
    (iblk3 V c 0 t) (ix3 0 k r) = (V c main_v121 : FVec Ideal S8x64x16384 .f32) (ix3 b k r) := by
  blk_point [iblk3, idx3 t]
theorem blk3_1 (c : Dev nD) (t : Fin cfg3.N) (k : Fin 16) (r : Fin 32) (s : Fin 64) :
    (iblk3 V c 1 t) (ix3 k r s) = (V c main_v186 : FVec Ideal S16x32x64 .f32) (ix3 k r s) := by
  blk_point [iblk3, idx3 t]
theorem blk3_2 (c : Dev nD) (t : Fin cfg3.N) (r : Fin 32) :
    (iblk3 V c 2 t) (ix2 r 0) = (V c main_v187 : FVec Ideal S32x1 .f32) (ix2 r 0) := by
  blk_point [iblk3, idx3 t]
theorem blk4_0 (c : Dev nD) (t : Fin cfg4.N) (b : Fin 8) (hb : b.val = t.val) (k : Fin 32) (r : Fin 65536) :
    (iblk4 V c 0 t) (ix3 0 k r) = (V c main_v191 : FVec Ideal S8x32x65536 .f32) (ix3 b k r) := by
  blk_point [iblk4, idx4 t]
theorem blk4_1 (c : Dev nD) (t : Fin cfg4.N) (k : Fin 16) (r : Fin 32) :
    (iblk4 V c 1 t) (ix2 k r) = (V c main_v240 : FVec Ideal S16x32 .f32) (ix2 k r) := by
  blk_point [iblk4, idx4 t]
theorem blk4_2 (c : Dev nD) (t : Fin cfg4.N) :
    (iblk4 V c 2 t) (ix2 0 0) = (V c main_v241 : FVec Ideal S1x1 .f32) (ix2 0 0) := by
  blk_point [iblk4, idx4 t]

/-- The second encoder layer's array. -/
theorem final1 (c : Dev nD) (H : Fin 8 → Fin 32 → Fin 256 → Fin 256 → EReal) (W : Fin 64 → Fin 32 → Fin 4 → Fin 4 → EReal) (B : Fin 64 → EReal)
    (hE : ∀ (b : Fin 8) (kw : Fin 4) (i : Fin 32) (r s : Fin 128), (V c main_v63 : FVec Ideal S8x128x128x128 .f32) (ix4 b ⟨i.val + 32 * kw.val, by omega⟩ r s) = px (H b i) (2 * r.val + 1) (kw.val + 2 * s.val))
    (hO : ∀ (b : Fin 8) (kw : Fin 4) (i : Fin 32) (r s : Fin 128), (V c main_v70 : FVec Ideal S8x128x128x128 .f32) (ix4 b ⟨i.val + 32 * kw.val, by omega⟩ r s) = px (H b i) (2 * r.val + 2) (kw.val + 2 * s.val))
    (hW : ∀ (o : Fin 64) (kh kw : Fin 4) (i : Fin 32), (V c main_v111 : FVec Ideal S4x64x128 .f32) (ix3 kh o ⟨i.val + 32 * kw.val, by omega⟩) = W o i kh kw)
    (hB : ∀ o : Fin 64, (V c main_v112 : FVec Ideal S64x1 .f32) (ix2 o 0) = B o) :
    (dat1 V c).arrAt 4 cfg1.N = (fun j => conv (W (j 1)) (B (j 1)) (H (j 0)) ((j 2).val / 128) ((j 2).val % 128) : FVec Ideal S8x64x16384 .f32) := by
  refine (dat1 V c).arrAt_eq_of_covers 4 _ (by decide +kernel) fun t _ y => ?_
  have ht : t.val < 8 := lt_of_lt_of_eq t.isLt N_1
  have hy1 : (y 1).val < 64 := (y 1).isLt
  have hy2 : (y 2).val < 16384 := (y 2).isLt
  have hy0 : (y 0).val < 1 := (y 0).isLt
  blk_simp
  rw [after1_4]
  have e0 : (win1_4.blk t).view.emb y 0 = (⟨t.val, ht⟩ : Fin 8) := Fin.ext (by blk_simp [idx1 t]; try omega)
  have e1 : (win1_4.blk t).view.emb y 1 = (⟨(y 1).val, hy1⟩ : Fin 64) := Fin.ext (by blk_simp [idx1 t])
  have e2 : (win1_4.blk t).view.emb y 2 = (⟨(y 2).val, hy2⟩ : Fin 16384) := Fin.ext (by blk_simp [idx1 t])
  refine (enc2_block _ _ _ _ y ⟨(y 1).val, hy1⟩ ⟨(y 2).val / 128, by omega⟩ ⟨(y 2).val % 128, by omega⟩ rfl (by show (y 2).val = (y 2).val / 128 * 128 + (y 2).val % 128; omega)
    (H ⟨t.val, ht⟩) (W ⟨(y 1).val, hy1⟩) (fun kw i r s => (blk1_0 V c t ⟨t.val, ht⟩ rfl _ r s).trans (hE _ kw i r s))
    (fun kw i r s => (blk1_1 V c t ⟨t.val, ht⟩ rfl _ r s).trans (hO _ kw i r s)) (fun kh kw i => (blk1_2 V c t _ _ _).trans (hW _ kh kw i))).trans ?_
  have i2 : win1_4.index t 2 = 0 := by rw [(idx1 t).2.2.2.2]; rfl
  rw [show (iblk1 V c 3 t) (ix2 (⟨(y 1).val, hy1⟩ : Fin 64) 0) = B ⟨(y 1).val, hy1⟩ from (blk1_3 V c t _).trans (hB _)]
  simp only [e0, e1, i2, Nat.zero_mul, Nat.zero_add]

/-- The first decoder layer's array, phase by phase. -/
theorem final3 (c : Dev nD) (X : Fin 8 → Fin 64 → Fin 128 → Fin 128 → EReal) (W : Fin 64 → Fin 32 → Fin 4 → Fin 4 → EReal) (B : Fin 32 → EReal)
    (hX : ∀ (b : Fin 8) (i : Fin 64) (r s : Fin 128), (V c main_v121 : FVec Ideal S8x64x16384 .f32) (ix3 b i ⟨r.val * 128 + s.val, by omega⟩) = X b i r s)
    (hW : ∀ (i : Fin 64) (o : Fin 32) (kh kw : Fin 4), (V c main_v186 : FVec Ideal S16x32x64 .f32) (ix3 ⟨4 * kh.val + kw.val, by omega⟩ o i) = W i o kh kw)
    (hB : ∀ o : Fin 32, (V c main_v187 : FVec Ideal S32x1 .f32) (ix2 o 0) = B o) :
    (dat3 V c).arrAt 3 cfg3.N = (fun j => max (tconv (fun i => W i (j 2)) (B (j 2)) (X (j 0)) ⟨(j 1).val / 2, by idx_bounds; omega⟩ ⟨(j 1).val % 2, by omega⟩ ((j 3).val / 128) ((j 3).val % 128)) 0 : FVec Ideal S8x4x32x16384 .f32) := by
  refine (dat3 V c).arrAt_eq_of_covers 3 _ (by decide +kernel) fun t _ y => ?_
  have ht : t.val < 8 := lt_of_lt_of_eq t.isLt N_3
  have hy0 : (y 0).val < 1 := (y 0).isLt
  have hy1 : (y 1).val < 4 := (y 1).isLt
  have hy2 : (y 2).val < 32 := (y 2).isLt
  have hy3 : (y 3).val < 16384 := (y 3).isLt
  blk_simp
  rw [after3_3]
  refine (dec1_block _ _ _ y ⟨(y 1).val / 2, by omega⟩ ⟨(y 1).val % 2, by omega⟩ ⟨(y 2).val, hy2⟩ ⟨(y 3).val / 128, by omega⟩ ⟨(y 3).val % 128, by omega⟩
    (by show (y 1).val = 2 * ((y 1).val / 2) + (y 1).val % 2; omega) rfl (by show (y 3).val = (y 3).val / 128 * 128 + (y 3).val % 128; omega)
    (X ⟨t.val, ht⟩) (fun i => W i ⟨(y 2).val, hy2⟩) (fun i r s => (blk3_0 V c t ⟨t.val, ht⟩ rfl _ _).trans (hX _ i r s))
    (fun i kh kw => (blk3_1 V c t _ _ _).trans (hW i _ kh kw))).trans ?_
  rw [show (iblk3 V c 2 t) (ix2 (⟨(y 2).val, hy2⟩ : Fin 32) 0) = B ⟨(y 2).val, hy2⟩ from (blk3_2 V c t _).trans (hB _)]
  have i1 : win3_3.index t 1 = 0 := by rw [(idx3 t).2.2.2]; rfl
  have i3 : win3_3.index t 3 = 0 := by rw [(idx3 t).2.2.2]; rfl
  have e0 : (win3_3.blk t).view.emb y 0 = (⟨t.val, ht⟩ : Fin 8) := Fin.ext (by blk_simp [idx3 t]; try omega)
  have e2 : (win3_3.blk t).view.emb y 2 = (⟨(y 2).val, hy2⟩ : Fin 32) := Fin.ext (by blk_simp [idx3 t])
  simp only [e0, e2, i1, i3, Nat.zero_mul, Nat.zero_add]

/-- The second decoder layer's array, phase by phase. -/
theorem final4 (c : Dev nD) (X : Fin 8 → Fin 32 → Fin 256 → Fin 256 → EReal) (W : Fin 32 → Fin 4 → Fin 4 → EReal) (B : EReal)
    (hX : ∀ (b : Fin 8) (i : Fin 32) (r s : Fin 256), (V c main_v191 : FVec Ideal S8x32x65536 .f32) (ix3 b i ⟨r.val * 256 + s.val, by omega⟩) = X b i r s)
    (hW : ∀ (i : Fin 32) (kh kw : Fin 4), (V c main_v240 : FVec Ideal S16x32 .f32) (ix2 ⟨4 * kh.val + kw.val, by omega⟩ i) = W i kh kw)
    (hB : (V c main_v241 : FVec Ideal S1x1 .f32) (ix2 0 0) = B) :
    (dat4 V c).arrAt 3 cfg4.N = (fun j => Ideal.logistic (tconv W B (X (j 0)) ⟨(j 1).val / 2, by idx_bounds; omega⟩ ⟨(j 1).val % 2, by omega⟩ (j 2).val (j 3).val) : FVec Ideal S8x4x256x256 .f32) := by
  refine (dat4 V c).arrAt_eq_of_covers 3 _ (by decide +kernel) fun t _ y => ?_
  have ht : t.val < 8 := lt_of_lt_of_eq t.isLt N_4
  have hy1 : (y 1).val < 4 := (y 1).isLt
  have hy2 : (y 2).val < 256 := (y 2).isLt
  have hy3 : (y 3).val < 256 := (y 3).isLt
  blk_simp
  rw [after4_3]
  refine (dec2_block _ _ _ y ⟨(y 1).val / 2, by omega⟩ ⟨(y 1).val % 2, by omega⟩ ⟨(y 2).val, hy2⟩ ⟨(y 3).val, hy3⟩
    (by show (y 1).val = 2 * ((y 1).val / 2) + (y 1).val % 2; omega) rfl rfl
    (X ⟨t.val, ht⟩) W (fun i r s => (blk4_0 V c t ⟨t.val, ht⟩ rfl _ _).trans (hX _ i r s))
    (fun i kh kw => (blk4_1 V c t _ _).trans (hW i kh kw))).trans ?_
  rw [show (iblk4 V c 2 t) (ix2 0 0) = B from (blk4_2 V c t).trans hB]
  have i1 : win4_3.index t 1 = 0 := by rw [(idx4 t).2.2.2]; rfl
  have i2 : win4_3.index t 2 = 0 := by rw [(idx4 t).2.2.2]; rfl
  have i3 : win4_3.index t 3 = 0 := by rw [(idx4 t).2.2.2]; rfl
  have hy0 : (y 0).val < 1 := (y 0).isLt
  have e0 : (win4_3.blk t).view.emb y 0 = (⟨t.val, ht⟩ : Fin 8) := Fin.ext (by blk_simp [idx4 t]; try omega)
  simp only [e0, i1, i2, i3, Nat.zero_mul, Nat.zero_add]

end Cert.KernelIdeal.Value
-- ==== Proof.KOutEnc.lean ====
module

public import proofs.«01_k».proof.Proof.Blocks
public import proofs.«01_k».proof.Proof.Gen.KernelIdeal.Frame
public import proofs.«01_k».proof.Proof.KHostEnc
public import proofs.«01_k».proof.Proof.KArrays
public import Idealize.ShloMosaic.Lib.Pipeline.ValueKit
public import Idealize.ShloMosaic.Lib.StableHlo.ReadAt
public import Idealize.ShloMosaic.Lib.Pointwise
public import Idealize.ShloMosaic.PureOps.Ideal

/-! The encoder's arrays along the kernel's run: the padded image, its patches, the first layer, and the second layer's
    operands and result, each an entry of the network's formula. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Value

open Cert.KernelIdeal Cert.KernelIdeal.Gen Cert.Net

variable (m : (ℓ : Loc nD τ sig) → Buf (Elt Ideal) ℓ) (ρ : Dev nD → PrngReg) (c : Dev nD)

/-- The borders' values. -/
theorem hc0 (V : Valuation τ sig (Elt Ideal)) : (after hostOps1 V (Proc.devRef .tc main_c_0) : IVec S_ 32) = constantI S_ 32 0#32 := by
  simp only [hostOps1]
  after_reads_simp

theorem hc1 (V : Valuation τ sig (Elt Ideal)) : (after hostOps1_2 V (Proc.devRef .tc main_c_1) : IVec S_ 32) = constantI S_ 32 0#32 := by
  simp only [hostOps1_2]
  after_reads_simp

theorem hc2 (V : Valuation τ sig (Elt Ideal)) : (after hostOps1_4 V (Proc.devRef .tc main_c_2) : IVec S_ 32) = constantI S_ 32 0#32 := by
  simp only [hostOps1_4]
  after_reads_simp

theorem hc3 (V : Valuation τ sig (Elt Ideal)) : (after hostOps1_6 V (Proc.devRef .tc main_c_3) : IVec S_ 32) = constantI S_ 32 0#32 := by
  simp only [hostOps1_6]
  after_reads_simp

/-- The arguments a launch holds. -/
def args : Args where
  x := fun b i y x => (m ((c : Thread nD τ).loc main_arg0) : FVec Ideal S8x1x512x512 .f32) (ix4 b i y x)
  w1 := fun o i a k => (m ((c : Thread nD τ).loc main_arg1) : FVec Ideal S32x1x4x4 .f32) (ix4 o i a k)
  b1 := fun o => (m ((c : Thread nD τ).loc main_arg2) : FVec Ideal S32 .f32) (ix1 o)
  w2 := fun o i a k => (m ((c : Thread nD τ).loc main_arg3) : FVec Ideal S64x32x4x4 .f32) (ix4 o i a k)
  b2 := fun o => (m ((c : Thread nD τ).loc main_arg4) : FVec Ideal S64 .f32) (ix1 o)
  cb := fun j k => (m ((c : Thread nD τ).loc main_arg5) : FVec Ideal S1024x64 .f32) (ix2 j k)
  u1 := fun i o a k => (m ((c : Thread nD τ).loc main_arg6) : FVec Ideal S64x32x4x4 .f32) (ix4 i o a k)
  c1 := fun o => (m ((c : Thread nD τ).loc main_arg7) : FVec Ideal S32 .f32) (ix1 o)
  u2 := fun i o a k => (m ((c : Thread nD τ).loc main_arg8) : FVec Ideal S32x1x4x4 .f32) (ix4 i o a k)
  c2 := fun o => (m ((c : Thread nD τ).loc main_arg9) : FVec Ideal S1 .f32) (ix1 o)

theorem at_bordered (b : Fin 8) (r s : Fin 514) :
    (W2 m ρ c (Proc.devRef .tc main_v1) : FVec Ideal S8x514x514 .f32) (ix3 b r s) = px ((args m c).x b 0) r.val s.val := by
  refine (h01 (W1 m ρ c) (h0c (W0 m ρ c)) b r s).trans ?_
  exact congrArg (fun f => px f r.val s.val) (funext fun y => funext fun x => h0 (W0 m ρ c) b y x)

theorem at_patches (b : Fin 8) (kh kw : Fin 4) (y x : Fin 256) :
    (W3 m ρ c (Proc.devRef .tc main_v50) : FVec Ideal S8x16x65536 .f32) (ix3 b ⟨4 * kh.val + kw.val, by omega⟩ ⟨y.val * 256 + x.val, by omega⟩)
      = px ((args m c).x b 0) (kh.val + 2 * y.val) (kw.val + 2 * x.val) := by
  refine (h02P (W2 m ρ c) b ⟨4 * kh.val + kw.val, by omega⟩ y x).trans ((at_bordered m ρ c _ _ _).trans ?_)
  have e1 : (4 * kh.val + kw.val) / 4 = kh.val := by omega
  have e2 : (4 * kh.val + kw.val) % 4 = kw.val := by omega
  simp only [e1, e2]

theorem at_w1 (o : Fin 32) (kh kw : Fin 4) :
    (W3 m ρ c (Proc.devRef .tc main_v51) : FVec Ideal S32x16 .f32) (ix2 o ⟨4 * kh.val + kw.val, by omega⟩) = (args m c).w1 o 0 kh kw := by
  refine (h02w (W2 m ρ c) o kh kw).trans ?_
  rw [W2_args m ρ c main_arg1 (by decide)]
  rfl

theorem at_b1 (o : Fin 32) : (W3 m ρ c (Proc.devRef .tc main_v52) : FVec Ideal S32x1 .f32) (ix2 o 0) = (args m c).b1 o := by
  refine (h02b (W2 m ρ c) o).trans ?_
  rw [W2_args m ρ c main_arg2 (by decide)]
  rfl

/-- Sixteen taps, one kernel row at a time. -/
theorem sum_taps (F : Fin 16 → EReal) : (∑ k, F k) = ∑ kh : Fin 4, ∑ kw : Fin 4, F ⟨4 * kh.val + kw.val, by omega⟩ := by
  refine (sum_blocks 4 4 F).trans ?_
  exact Finset.sum_congr rfl fun i _ => Finset.sum_congr rfl fun j _ => congrArg F (Fin.ext (Nat.add_comm _ _))

/-- One entry of an array, as a number. -/
abbrev entry {s : Shape} (x : FVec Ideal s .f32) (j : s.Idx) : EReal := x j

theorem G0_at (P : FVec Ideal S8x16x65536 .f32) (w : FVec Ideal S32x16 .f32) (v : FVec Ideal S32x1 .f32) (b : Fin 8) (o : Fin 32) (p : Fin 65536) :
    G0 P w v (ix3 b o p) = max ((∑ k : Fin 16, entry w (ix2 o k) * entry P (ix3 b k p)) + entry v (ix2 o 0)) 0 := rfl

theorem at_hidden (b : Fin 8) (o : Fin 32) (y x : Fin 256) :
    (W4 m ρ c (Proc.devRef .tc main_v53) : FVec Ideal S8x32x65536 .f32) (ix3 b o ⟨y.val * 256 + x.val, by omega⟩) = hidden (args m c) b o y x := by
  have e : (W4 m ρ c (Proc.devRef .tc main_v53) : FVec Ideal S8x32x65536 .f32) = _ := (W4_arr m ρ c 3).trans (final0 (V3 m ρ) c)
  refine (congrFun e (ix3 b o ⟨y.val * 256 + x.val, by omega⟩)).trans ?_
  refine (G0_at _ _ _ b o _).trans ?_
  unfold Cert.Net.hidden Cert.Net.conv
  rw [Fin.sum_univ_one]
  exact congrArg₂ max (congrArg₂ (fun u v : EReal => u + v) ((sum_taps _).trans
    (Finset.sum_congr rfl fun kh _ => Finset.sum_congr rfl fun kw _ =>
      congrArg₂ (fun u v : EReal => u * v) (at_w1 m ρ c o kh kw) (at_patches m ρ c b kh kw y x))) (at_b1 m ρ c o)) rfl

/-- The first layer at a column position, as the second layer's host steps read it. -/
theorem at_hiddenAt (b : Fin 8) (o : Fin 32) (y x : Fin 256) (n : Fin 65536) (h : n.val = y.val * 256 + x.val) :
    (W4 m ρ c (Proc.devRef .tc main_v53) : FVec Ideal S8x32x65536 .f32) (ix3 b o n) = hidden (args m c) b o y x := by
  rw [show n = ⟨y.val * 256 + x.val, by omega⟩ from Fin.ext h]
  exact at_hidden m ρ c b o y x

theorem at_ee (b : Fin 8) (i : Fin 32) (y x : Fin 128) :
    (W5 m ρ c (Proc.devRef .tc main_v57) : FVec Ideal S8x32x128x128 .f32) (ix4 b i y x) = hidden (args m c) b i ⟨2 * y.val, by omega⟩ ⟨2 * x.val, by omega⟩ :=
  (h1a (W4 m ρ c) b i y x).trans (at_hiddenAt m ρ c b i _ _ _ rfl)

theorem at_eo (b : Fin 8) (i : Fin 32) (y x : Fin 128) :
    (W5 m ρ c (Proc.devRef .tc main_v58) : FVec Ideal S8x32x128x128 .f32) (ix4 b i y x) = hidden (args m c) b i ⟨2 * y.val, by omega⟩ ⟨2 * x.val + 1, by omega⟩ :=
  (h1b (W4 m ρ c) b i y x).trans (at_hiddenAt m ρ c b i _ _ _ rfl)

theorem at_o (b : Fin 8) (i : Fin 32) (y : Fin 128) (x : Fin 256) :
    (W5 m ρ c (Proc.devRef .tc main_v56) : FVec Ideal S8x32x128x256 .f32) (ix4 b i y x) = hidden (args m c) b i ⟨2 * y.val + 1, by omega⟩ x :=
  (h1c (W4 m ρ c) b i y x).trans (at_hiddenAt m ρ c b i _ _ _ rfl)

theorem at_oe (b : Fin 8) (i : Fin 32) (y x : Fin 128) :
    (W9 m ρ c (Proc.devRef .tc main_v64) : FVec Ideal S8x32x128x128 .f32) (ix4 b i y x) = hidden (args m c) b i ⟨2 * y.val + 1, by omega⟩ ⟨2 * x.val, by omega⟩ := by
  refine (h14a (W8 m ρ c) b i y x).trans ?_
  rw [W8_of m ρ c main_v56 (by decide), W7_of m ρ c main_v56 (by decide), W6_of m ρ c main_v56 (by decide)]
  exact at_o m ρ c b i y _

theorem at_oo (b : Fin 8) (i : Fin 32) (y x : Fin 128) :
    (W9 m ρ c (Proc.devRef .tc main_v65) : FVec Ideal S8x32x128x128 .f32) (ix4 b i y x) = hidden (args m c) b i ⟨2 * y.val + 1, by omega⟩ ⟨2 * x.val + 1, by omega⟩ := by
  refine (h14b (W8 m ρ c) b i y x).trans ?_
  rw [W8_of m ρ c main_v56 (by decide), W7_of m ρ c main_v56 (by decide), W6_of m ρ c main_v56 (by decide)]
  exact at_o m ρ c b i y _

/-- The four column taps of the even rows. -/
theorem at_even0 (b : Fin 8) (i : Fin 32) (r s : Fin 128) :
    (W9 m ρ c (Proc.devRef .tc main_v63) : FVec Ideal S8x128x128x128 .f32) (ix4 b ⟨i.val + 32 * 0, by omega⟩ r s)
      = px (hidden (args m c) b i) (2 * r.val + 1) (0 + 2 * s.val) := by
  refine (h14_0 (W8 m ρ c) b i r s).trans ?_
  rw [W8_of m ρ c main_v60 (by decide)]
  refine (h12 (W6 m ρ c) b i r s).trans ((h11 (W5 m ρ c) (hc0 (W4 m ρ c)) b i r _).trans ?_)
  by_cases h : 1 ≤ s.val
  · refine (dif_pos h).trans ((at_eo m ρ c b i r _).trans (px_in _ _ _ _ _ ?_ ?_).symm) <;> simp only [] <;> omega
  · exact (dif_neg h).trans (px_out _ _ _ (by omega)).symm

theorem at_even1 (b : Fin 8) (i : Fin 32) (r s : Fin 128) :
    (W9 m ρ c (Proc.devRef .tc main_v63) : FVec Ideal S8x128x128x128 .f32) (ix4 b ⟨i.val + 32 * 1, by omega⟩ r s)
      = px (hidden (args m c) b i) (2 * r.val + 1) (1 + 2 * s.val) := by
  refine (h14_1 (W8 m ρ c) b i r s).trans ?_
  rw [W8_of m ρ c main_v57 (by decide), W7_of m ρ c main_v57 (by decide), W6_of m ρ c main_v57 (by decide)]
  refine (at_ee m ρ c b i r s).trans (px_in _ _ _ _ _ ?_ ?_).symm <;> simp only [] <;> omega

theorem at_even2 (b : Fin 8) (i : Fin 32) (r s : Fin 128) :
    (W9 m ρ c (Proc.devRef .tc main_v63) : FVec Ideal S8x128x128x128 .f32) (ix4 b ⟨i.val + 32 * 2, by omega⟩ r s)
      = px (hidden (args m c) b i) (2 * r.val + 1) (2 + 2 * s.val) := by
  refine (h14_2 (W8 m ρ c) b i r s).trans ?_
  rw [W8_of m ρ c main_v58 (by decide), W7_of m ρ c main_v58 (by decide), W6_of m ρ c main_v58 (by decide)]
  refine (at_eo m ρ c b i r s).trans (px_in _ _ _ _ _ ?_ ?_).symm <;> simp only [] <;> omega

theorem at_even3 (b : Fin 8) (i : Fin 32) (r s : Fin 128) :
    (W9 m ρ c (Proc.devRef .tc main_v63) : FVec Ideal S8x128x128x128 .f32) (ix4 b ⟨i.val + 32 * 3, by omega⟩ r s)
      = px (hidden (args m c) b i) (2 * r.val + 1) (3 + 2 * s.val) := by
  refine (h14_3 (W8 m ρ c) b i r s).trans ((h13 (W7 m ρ c) (hc1 (W6 m ρ c)) b i r _).trans ?_)
  by_cases h : s.val + 1 < 128
  · refine (dif_pos h).trans ?_
    rw [W7_of m ρ c main_v57 (by decide), W6_of m ρ c main_v57 (by decide)]
    refine (at_ee m ρ c b i r _).trans (px_in _ _ _ _ _ ?_ ?_).symm <;> simp only [] <;> omega
  · exact (dif_neg h).trans (px_out _ _ _ (by omega)).symm

theorem at_even (b : Fin 8) (kw : Fin 4) (i : Fin 32) (r s : Fin 128) :
    (W13 m ρ c (Proc.devRef .tc main_v63) : FVec Ideal S8x128x128x128 .f32) (ix4 b ⟨i.val + 32 * kw.val, by omega⟩ r s)
      = px (hidden (args m c) b i) (2 * r.val + 1) (kw.val + 2 * s.val) := by
  rw [W13_of m ρ c main_v63 (by decide), W12_of m ρ c main_v63 (by decide), W11_of m ρ c main_v63 (by decide), W10_of m ρ c main_v63 (by decide)]
  match kw with
  | 0 => exact at_even0 m ρ c b i r s
  | 1 => exact at_even1 m ρ c b i r s
  | 2 => exact at_even2 m ρ c b i r s
  | 3 => exact at_even3 m ρ c b i r s

/-- The four column taps of the odd rows. -/
theorem at_odd0 (b : Fin 8) (i : Fin 32) (r s : Fin 128) :
    (W13 m ρ c (Proc.devRef .tc main_v70) : FVec Ideal S8x128x128x128 .f32) (ix4 b ⟨i.val + 32 * 0, by omega⟩ r s)
      = px (hidden (args m c) b i) (2 * r.val + 2) (0 + 2 * s.val) := by
  refine (h18_0 (W12 m ρ c) b i r s).trans ?_
  rw [W12_of m ρ c main_v67 (by decide)]
  refine (h16 (W10 m ρ c) b i r s).trans ((h15 (W9 m ρ c) (hc2 (W8 m ρ c)) b i r _).trans ?_)
  by_cases h : 1 ≤ s.val
  · refine (dif_pos h).trans ((at_oo m ρ c b i r _).trans (px_in _ _ _ _ _ ?_ ?_).symm) <;> simp only [] <;> omega
  · exact (dif_neg h).trans (px_out _ _ _ (by omega)).symm

theorem at_odd1 (b : Fin 8) (i : Fin 32) (r s : Fin 128) :
    (W13 m ρ c (Proc.devRef .tc main_v70) : FVec Ideal S8x128x128x128 .f32) (ix4 b ⟨i.val + 32 * 1, by omega⟩ r s)
      = px (hidden (args m c) b i) (2 * r.val + 2) (1 + 2 * s.val) := by
  refine (h18_1 (W12 m ρ c) b i r s).trans ?_
  rw [W12_of m ρ c main_v64 (by decide), W11_of m ρ c main_v64 (by decide), W10_of m ρ c main_v64 (by decide)]
  refine (at_oe m ρ c b i r s).trans (px_in _ _ _ _ _ ?_ ?_).symm <;> simp only [] <;> omega

theorem at_odd2 (b : Fin 8) (i : Fin 32) (r s : Fin 128) :
    (W13 m ρ c (Proc.devRef .tc main_v70) : FVec Ideal S8x128x128x128 .f32) (ix4 b ⟨i.val + 32 * 2, by omega⟩ r s)
      = px (hidden (args m c) b i) (2 * r.val + 2) (2 + 2 * s.val) := by
  refine (h18_2 (W12 m ρ c) b i r s).trans ?_
  rw [W12_of m ρ c main_v65 (by decide), W11_of m ρ c main_v65 (by decide), W10_of m ρ c main_v65 (by decide)]
  refine (at_oo m ρ c b i r s).trans (px_in _ _ _ _ _ ?_ ?_).symm <;> simp only [] <;> omega

theorem at_odd3 (b : Fin 8) (i : Fin 32) (r s : Fin 128) :
    (W13 m ρ c (Proc.devRef .tc main_v70) : FVec Ideal S8x128x128x128 .f32) (ix4 b ⟨i.val + 32 * 3, by omega⟩ r s)
      = px (hidden (args m c) b i) (2 * r.val + 2) (3 + 2 * s.val) := by
  refine (h18_3 (W12 m ρ c) b i r s).trans ((h17 (W11 m ρ c) (hc3 (W10 m ρ c)) b i r _).trans ?_)
  by_cases h : s.val + 1 < 128
  · refine (dif_pos h).trans ?_
    rw [W11_of m ρ c main_v64 (by decide), W10_of m ρ c main_v64 (by decide)]
    refine (at_oe m ρ c b i r _).trans (px_in _ _ _ _ _ ?_ ?_).symm <;> simp only [] <;> omega
  · exact (dif_neg h).trans (px_out _ _ _ (by omega)).symm

theorem at_odd (b : Fin 8) (kw : Fin 4) (i : Fin 32) (r s : Fin 128) :
    (W13 m ρ c (Proc.devRef .tc main_v70) : FVec Ideal S8x128x128x128 .f32) (ix4 b ⟨i.val + 32 * kw.val, by omega⟩ r s)
      = px (hidden (args m c) b i) (2 * r.val + 2) (kw.val + 2 * s.val) := by
  match kw with
  | 0 => exact at_odd0 m ρ c b i r s
  | 1 => exact at_odd1 m ρ c b i r s
  | 2 => exact at_odd2 m ρ c b i r s
  | 3 => exact at_odd3 m ρ c b i r s

theorem at_w2 (o : Fin 64) (kh kw : Fin 4) (i : Fin 32) :
    (W13 m ρ c (Proc.devRef .tc main_v111) : FVec Ideal S4x64x128 .f32) (ix3 kh o ⟨i.val + 32 * kw.val, by omega⟩) = (args m c).w2 o i kh kw := by
  refine (h18w (W12 m ρ c) kh kw o i).trans ?_
  rw [W12_args m ρ c main_arg3 (by decide)]
  rfl

theorem at_b2 (o : Fin 64) : (W13 m ρ c (Proc.devRef .tc main_v112) : FVec Ideal S64x1 .f32) (ix2 o 0) = (args m c).b2 o := by
  refine (h18b (W12 m ρ c) o).trans ?_
  rw [W12_args m ρ c main_arg4 (by decide)]
  rfl

theorem at_latent (b : Fin 8) (o : Fin 64) (p : Fin 16384) :
    (W14 m ρ c (Proc.devRef .tc main_v113) : FVec Ideal S8x64x16384 .f32) (ix3 b o p)
      = latent (args m c) b o ⟨p.val / 128, by omega⟩ ⟨p.val % 128, by omega⟩ := by
  have e : (W14 m ρ c (Proc.devRef .tc main_v113) : FVec Ideal S8x64x16384 .f32) = _ :=
    (W14_arr m ρ c 4).trans (final1 (V13 m ρ) c (hidden (args m c)) (args m c).w2 (args m c).b2 (at_even m ρ c) (at_odd m ρ c) (at_w2 m ρ c) (at_b2 m ρ c))
  exact congrFun e (ix3 b o p)

end Cert.KernelIdeal.Value
-- ==== Proof.KHostDec.lean ====
module

public import proofs.«01_k».proof.Proof.KHostEnc
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! What the host's steps after the encoder leave, read one element at a time. -/

@[expose] public section

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.Net

variable (V : Valuation τ sig (Elt Ideal))

/-- The encoded vectors, one column each. -/
theorem h2z (k : Fin 64) (b : Fin 8) (p : Fin 16384) :
    (after hostOps2 V (Proc.devRef .tc main_v115) : FVec Ideal S64x131072 .f32) (ix2 k ⟨b.val * 16384 + p.val, by omega⟩)
      = (V (Proc.devRef .tc main_v113) : FVec Ideal S8x64x16384 .f32) (ix3 b k p) := by
  simp only [hostOps2]
  after_reads_simp
  try simp -implicitDefEqProofs only [StableHlo.TRef.toBuf, StableHlo.TRef.ofBuf, cast_cast, cast_eq]
  clean_types
  pointwise

/-- The codebook, one column per row. -/
theorem h2c (k : Fin 64) (j : Fin 1024) :
    (after hostOps2 V (Proc.devRef .tc main_v116) : FVec Ideal S64x1024 .f32) (ix2 k j)
      = (V (Proc.devRef .tc main_arg5) : FVec Ideal S1024x64 .f32) (ix2 j k) := by
  simp only [hostOps2]
  after_reads_simp
  try simp -implicitDefEqProofs only [StableHlo.TRef.toBuf, StableHlo.TRef.ofBuf, cast_cast, cast_eq]
  clean_types
  pointwise

/-- The picked vectors as an image. -/
theorem h3q (b : Fin 8) (k : Fin 64) (p : Fin 16384) :
    (after hostOps3 V (Proc.devRef .tc main_v121) : FVec Ideal S8x64x16384 .f32) (ix3 b k p)
      = (V (Proc.devRef .tc main_v117_1) : FVec Ideal S64x131072 .f32) (ix2 k ⟨b.val * 16384 + p.val, by omega⟩) := by
  simp only [hostOps3]
  after_reads_simp
  try simp -implicitDefEqProofs only [StableHlo.TRef.toBuf, StableHlo.TRef.ofBuf, cast_cast, cast_eq]
  clean_types
  pointwise

set_option maxHeartbeats 4000000 in
/-- The third layer's weights. -/
theorem h3w (k : Fin 16) (o : Fin 32) (i : Fin 64) :
    (after hostOps3 V (Proc.devRef .tc main_v186) : FVec Ideal S16x32x64 .f32) (ix3 k o i)
      = (V (Proc.devRef .tc main_arg6) : FVec Ideal S64x32x4x4 .f32) (ix4 i o ⟨k.val / 4, by omega⟩ ⟨k.val % 4, by omega⟩) := by
  rw [after_cut 68 hostOps3]
  generalize hU : after (hostOps3.take 68) V = U
  simp only [hostOps3, List.drop_succ_cons, List.drop_zero]
  after_reads_simp
  try simp -implicitDefEqProofs only [StableHlo.TRef.toBuf, StableHlo.TRef.ofBuf, cast_cast, cast_eq]
  refine (concatenate_ofFn_unit_apply (t := S16x32x64) (s₁ := S1x32x64) 0 (N := 16) ![(U (Proc.devRef .tc main_v170) : FVec Ideal S1x32x64 .f32), (U (Proc.devRef .tc main_v171) : FVec Ideal S1x32x64 .f32), (U (Proc.devRef .tc main_v172) : FVec Ideal S1x32x64 .f32), (U (Proc.devRef .tc main_v173) : FVec Ideal S1x32x64 .f32), (U (Proc.devRef .tc main_v174) : FVec Ideal S1x32x64 .f32), (U (Proc.devRef .tc main_v175) : FVec Ideal S1x32x64 .f32), (U (Proc.devRef .tc main_v176) : FVec Ideal S1x32x64 .f32), (U (Proc.devRef .tc main_v177) : FVec Ideal S1x32x64 .f32), (U (Proc.devRef .tc main_v178) : FVec Ideal S1x32x64 .f32), (U (Proc.devRef .tc main_v179) : FVec Ideal S1x32x64 .f32), (U (Proc.devRef .tc main_v180) : FVec Ideal S1x32x64 .f32), (U (Proc.devRef .tc main_v181) : FVec Ideal S1x32x64 .f32), (U (Proc.devRef .tc main_v182) : FVec Ideal S1x32x64 .f32), (U (Proc.devRef .tc main_v183) : FVec Ideal S1x32x64 .f32), (U (Proc.devRef .tc main_v184) : FVec Ideal S1x32x64 .f32), (U (Proc.devRef .tc main_v185) : FVec Ideal S1x32x64 .f32)] (joins16 _ _ (by decide)) rfl rfl _ k rfl (ix3 0 o i) ?_).trans ?_
  · intro d hd
    fin_cases d <;> first | rfl | exact absurd rfl hd
  fin_cases k
  all_goals simp only [Fin.reduceFinMk, Matrix.cons_val]
  all_goals rw [← hU]
  all_goals simp only [hostOps3, List.take_succ_cons, List.take_zero]
  all_goals after_reads_simp
  all_goals try simp -implicitDefEqProofs only [StableHlo.TRef.toBuf, StableHlo.TRef.ofBuf, cast_cast, cast_eq]
  all_goals clean_types
  all_goals pointwise

/-- The third layer's offsets. -/
theorem h3b (o : Fin 32) :
    (after hostOps3 V (Proc.devRef .tc main_v187) : FVec Ideal S32x1 .f32) (ix2 o 0)
      = (V (Proc.devRef .tc main_arg7) : FVec Ideal S32 .f32) (ix1 o) := by
  simp only [hostOps3]
  after_reads_simp
  try simp -implicitDefEqProofs only [StableHlo.TRef.toBuf, StableHlo.TRef.ofBuf, cast_cast, cast_eq]
  clean_types
  pointwise

/-- The loss. -/
theorem h3l  :
    (after hostOps3 V (Proc.devRef .tc main_v119) : FVec Ideal S_ .f32) ix0
      = (V (Proc.devRef .tc main_v117_2) : FVec Ideal S1x1 .f32) (ix2 0 0) := by
  simp only [hostOps3]
  after_reads_simp
  try simp -implicitDefEqProofs only [StableHlo.TRef.toBuf, StableHlo.TRef.ofBuf, cast_cast, cast_eq]
  clean_types
  pointwise

/-- The indices. -/
theorem h3i (t : Fin 128) (l : Fin 1024) : (after hostOps3 V (Proc.devRef .tc main_v118) : IVec S131072 32) (ix1 ⟨t.val * 1024 + l.val, by omega⟩)
      = (V (Proc.devRef .tc main_v117_0) : IVec S128x1x1024 32) (ix3 t 0 l) := by
  simp only [hostOps3]
  after_reads_simp
  clean_types
  pointwise

/-- The third layer's four phases, interleaved. -/
theorem h4d (b : Fin 8) (i : Fin 32) (y x : Fin 128) (p q : Fin 2) :
    (after hostOps4 V (Proc.devRef .tc main_v191) : FVec Ideal S8x32x65536 .f32) (ix3 b i ⟨(2 * y.val + p.val) * 256 + (2 * x.val + q.val), by omega⟩)
      = (V (Proc.devRef .tc main_v188) : FVec Ideal S8x4x32x16384 .f32) (ix4 b ⟨2 * p.val + q.val, by omega⟩ i ⟨y.val * 128 + x.val, by omega⟩) := by
  simp only [hostOps4]
  after_reads_simp
  try simp -implicitDefEqProofs only [StableHlo.TRef.toBuf, StableHlo.TRef.ofBuf, cast_cast, cast_eq]
  clean_types
  pointwise
  simp only [Nat.mul_comm]

set_option maxHeartbeats 4000000 in
/-- The last layer's weights. -/
theorem h4w (k : Fin 16) (i : Fin 32) :
    (after hostOps4 V (Proc.devRef .tc main_v240) : FVec Ideal S16x32 .f32) (ix2 k i)
      = (V (Proc.devRef .tc main_arg8) : FVec Ideal S32x1x4x4 .f32) (ix4 i 0 ⟨k.val / 4, by omega⟩ ⟨k.val % 4, by omega⟩) := by
  rw [after_cut 51 hostOps4]
  generalize hU : after (hostOps4.take 51) V = U
  simp only [hostOps4, List.drop_succ_cons, List.drop_zero]
  after_reads_simp
  try simp -implicitDefEqProofs only [StableHlo.TRef.toBuf, StableHlo.TRef.ofBuf, cast_cast, cast_eq]
  refine (concatenate_ofFn_unit_apply (t := S16x32) (s₁ := S1x32) 0 (N := 16) ![(U (Proc.devRef .tc main_v224) : FVec Ideal S1x32 .f32), (U (Proc.devRef .tc main_v225) : FVec Ideal S1x32 .f32), (U (Proc.devRef .tc main_v226) : FVec Ideal S1x32 .f32), (U (Proc.devRef .tc main_v227) : FVec Ideal S1x32 .f32), (U (Proc.devRef .tc main_v228) : FVec Ideal S1x32 .f32), (U (Proc.devRef .tc main_v229) : FVec Ideal S1x32 .f32), (U (Proc.devRef .tc main_v230) : FVec Ideal S1x32 .f32), (U (Proc.devRef .tc main_v231) : FVec Ideal S1x32 .f32), (U (Proc.devRef .tc main_v232) : FVec Ideal S1x32 .f32), (U (Proc.devRef .tc main_v233) : FVec Ideal S1x32 .f32), (U (Proc.devRef .tc main_v234) : FVec Ideal S1x32 .f32), (U (Proc.devRef .tc main_v235) : FVec Ideal S1x32 .f32), (U (Proc.devRef .tc main_v236) : FVec Ideal S1x32 .f32), (U (Proc.devRef .tc main_v237) : FVec Ideal S1x32 .f32), (U (Proc.devRef .tc main_v238) : FVec Ideal S1x32 .f32), (U (Proc.devRef .tc main_v239) : FVec Ideal S1x32 .f32)] (joins16 _ _ (by decide)) rfl rfl _ k rfl (ix2 0 i) ?_).trans ?_
  · intro d hd
    fin_cases d <;> first | rfl | exact absurd rfl hd
  fin_cases k
  all_goals simp only [Fin.reduceFinMk, Matrix.cons_val]
  all_goals rw [← hU]
  all_goals simp only [hostOps4, List.take_succ_cons, List.take_zero]
  all_goals after_reads_simp
  all_goals try simp -implicitDefEqProofs only [StableHlo.TRef.toBuf, StableHlo.TRef.ofBuf, cast_cast, cast_eq]
  all_goals clean_types
  all_goals pointwise

/-- The last layer's offset. -/
theorem h4b  :
    (after hostOps4 V (Proc.devRef .tc main_v241) : FVec Ideal S1x1 .f32) (ix2 0 0)
      = (V (Proc.devRef .tc main_arg9) : FVec Ideal S1 .f32) (ix1 0) := by
  simp only [hostOps4]
  after_reads_simp
  try simp -implicitDefEqProofs only [StableHlo.TRef.toBuf, StableHlo.TRef.ofBuf, cast_cast, cast_eq]
  clean_types
  pointwise

/-- The last layer's four phases, interleaved. -/
theorem h5 (b : Fin 8) (y x : Fin 256) (p q : Fin 2) :
    (after hostOps5 V (Proc.devRef .tc main_v245) : FVec Ideal S8x1x512x512 .f32) (ix4 b 0 ⟨2 * y.val + p.val, by omega⟩ ⟨2 * x.val + q.val, by omega⟩)
      = (V (Proc.devRef .tc main_v242) : FVec Ideal S8x4x256x256 .f32) (ix4 b ⟨2 * p.val + q.val, by omega⟩ y x) := by
  simp only [hostOps5]
  after_reads_simp
  try simp -implicitDefEqProofs only [StableHlo.TRef.toBuf, StableHlo.TRef.ofBuf, cast_cast, cast_eq]
  clean_types
  pointwise
  simp only [Nat.mul_comm]

end Cert.KernelIdeal.Value
-- ==== Proof.KQuant.lean ====
module

public import proofs.«01_k».proof.Proof.Blocks
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.PureOps.Ideal

/-! What the vector quantization kernel stores: row numbers, rows and the scaled sum of distances. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net

variable (V : (c : Dev nD) → (b : Ref sig .tc) → Buf (Elt Ideal) ((c : Thread nD τ).loc b))

/-- Column `l` of a block. -/
def col (x0 : Vec Ideal S64x1024 .f32) (l : Fin 1024) (c : Fin 64) : EReal := x0 (ix2 c l)
/-- The codebook block as a table. -/
def rows (w : Vec Ideal S1024x64 .f32) (j : Fin 1024) (c : Fin 64) : EReal := w (ix2 j c)

theorem two_bits : (Ideal.ofBits FTy.f32 1073741824#32 : EReal) = 2 := by
  rw [two_coe]
  simp [Ideal.ofBits, Ideal.ieee]
  rw [← EReal.coe_mul]
  norm_num

theorem top_bits : (Ideal.ofBits FTy.f32 2139095040#32 : EReal) = ⊤ := by
  simp [Ideal.ofBits, Ideal.ieee]

/-- The table of distances in one block. -/
theorem dist_at (x0 : Vec Ideal S64x1024 .f32) (w : Vec Ideal S1024x64 .f32) (j l : Fin 1024) :
    (show Ideal .f32 from k2_pay5 x0 w (ix2 j l)) = rowDist (col x0 l) (rows w) j := by
  pointwise [k2_pay5, k2_pay4]
  rw [two_bits]
  rfl

/-- The least distance of a column. -/
theorem least_at (x0 : Vec Ideal S64x1024 .f32) (w : Vec Ideal S1024x64 .f32) (l : Fin 1024) :
    (show Ideal .f32 from k2_pay6 x0 w (ix2 0 l)) = rowDist (col x0 l) (rows w) (nearest (col x0 l) (rows w)) := by
  pointwise [k2_pay6]
  rw [top_bits]
  refine Eq.trans ?_ (fold_min_eq _ _ (firstMin_spec (rowDist (col x0 l) (rows w))))
  refine congrArg (fun t => Finset.fold min ⊤ t Finset.univ) (funext fun j => dist_at x0 w j l)

/-- The row number where it is reached first. -/
theorem place_at (x0 : Vec Ideal S64x1024 .f32) (w : Vec Ideal S1024x64 .f32) (l : Fin 1024) :
    k2_pay7 x0 w (ix2 0 l) = BitVec.ofNat 32 (nearest (col x0 l) (rows w)).val := by
  pointwise [k2_pay7]
  refine Eq.trans ?_ (fold_rows_eq _ _ (firstMin_spec (rowDist (col x0 l) (rows w))) _ rfl)
  refine congrArg (fun t => Finset.fold IntOp.minsi 2147483647#32 t Finset.univ) (funext fun j => ?_)
  rw [← dist_at x0 w j l]
  rw [show rowDist (col x0 l) (rows w) (firstMin (rowDist (col x0 l) (rows w))) = (show Ideal .f32 from k2_pay6 x0 w (ix2 0 l)) from (least_at x0 w l).symm]

/-- The table of zeros and a one, as numbers. -/
theorem pick_word (i j : Fin 1024) :
    (FloatOps.sitofp .f32 (BitVec.setWidth 32 (IntOp.cmpi .eq (BitVec.ofNat 32 i.val) (BitVec.ofNat 32 j.val))) : Ideal .f32) = if i = j then 1 else 0 := by
  by_cases h : i = j
  · subst h; simp [IntOp.cmpi, FloatOps.sitofp]
  · have : ¬ BitVec.ofNat 32 i.val = BitVec.ofNat 32 j.val := fun e => h (Fin.ext (by
      have := congrArg BitVec.toNat e; simp at this; omega))
    have e : (BitVec.ofNat 32 i.val == BitVec.ofNat 32 j.val) = false := by simpa using this
    simp [IntOp.cmpi, FloatOps.sitofp, h, e]

/-- The row picked. -/
theorem row_at (x0 : Vec Ideal S64x1024 .f32) (w : Vec Ideal S1024x64 .f32) (v : Vec Ideal S64x1024 .f32) (c : Fin 64) (l : Fin 1024) :
    (show Ideal .f32 from k2_pay9 x0 w v (ix2 c l)) = v (ix2 c (nearest (col x0 l) (rows w))) := by
  pointwise [k2_pay9]
  simp only [place_at]
  exact sum_pick (fun j => v (ix2 c j)) _ _ ((pick_word _ _).trans (if_pos rfl)) fun i hi => (pick_word _ _).trans (if_neg hi)

/-- What one block adds to the running sum. -/
def part (x0 : Vec Ideal S64x1024 .f32) (w : Vec Ideal S1024x64 .f32) : EReal :=
  (∑ c : Fin 64, ∑ l : Fin 1024, col x0 l c * col x0 l c) + ∑ l : Fin 1024, rowDist (col x0 l) (rows w) (nearest (col x0 l) (rows w))

theorem pay2_at (a p : Vec Ideal S1x1 .f32) (b : Vec Ideal S1x1x1024 .f32) :
    (show Ideal .f32 from k2_pay2 a b p (ix2 0 0)) = p (ix2 0 0) + (a (ix2 0 0) + ∑ i : Fin 1, ∑ l : Fin 1024, b (ix3 0 i l)) := by
  pointwise [k2_pay2]

theorem pay10_at (x0 : Vec Ideal S64x1024 .f32) :
    (show Ideal .f32 from k2_pay10 x0 (ix2 0 0)) = ∑ c : Fin 64, ∑ l : Fin 1024, col x0 l c * col x0 l c := by
  pointwise [k2_pay10, k2_pay4]
  rfl

theorem pay11_at (x0 : Vec Ideal S64x1024 .f32) (w : Vec Ideal S1024x64 .f32) (l : Fin 1024) :
    (show Ideal .f32 from k2_pay11 x0 w (ix3 0 0 l)) = rowDist (col x0 l) (rows w) (nearest (col x0 l) (rows w)) := by
  pointwise [k2_pay11]
  exact least_at x0 w l

theorem pay8_at (x0 : Vec Ideal S64x1024 .f32) (w : Vec Ideal S1024x64 .f32) (l : Fin 1024) :
    k2_pay8 x0 w (ix3 0 0 l) = BitVec.ofNat 32 (nearest (col x0 l) (rows w)).val := by
  pointwise [k2_pay8]
  exact place_at x0 w l

theorem pay3_at (a : Vec Ideal S1x1 .f32) : (show Ideal .f32 from k2_pay3 a (ix2 0 0)) = a (ix2 0 0) * Ideal.ofBits .f32 872415232#32 := by
  pointwise [k2_pay3]

theorem pay1_at : (show Ideal .f32 from k2_pay1 (F := Ideal) (ix2 0 0)) = 0 := by
  pointwise [k2_pay1]

theorem step_at (x0 : Vec Ideal S64x1024 .f32) (w : Vec Ideal S1024x64 .f32) (p : Vec Ideal S1x1 .f32) :
    (show Ideal .f32 from k2_pay2 (k2_pay10 x0) (k2_pay11 x0 w) p (ix2 0 0)) = p (ix2 0 0) + part x0 w := by
  refine (pay2_at _ p _).trans (congrArg₂ (fun a b : EReal => a + b) rfl (congrArg₂ (fun a b : EReal => a + b) (pay10_at x0) ?_))
  rw [Fin.sum_univ_one]
  exact Finset.sum_congr rfl fun l _ => pay11_at x0 w l

/-- The block each window is at. -/
theorem idx2 : ∀ t : Fin cfg2.N, win2_0.index t = ![0, t.val] ∧ win2_1.index t = ![0, 0] ∧ win2_2.index t = ![0, 0] ∧ win2_3.index t = ![t.val, 0, 0] ∧ win2_4.index t = ![0, t.val] ∧ win2_5.index t = ![0, 0] :=
  (by decide +kernel : ∀ t : Fin grid2.N, _)

/-- What each grid point stores as row numbers. -/
theorem outs_3 (c : Dev nD) (t : Fin cfg2.N) : (outsAt2 V c t.val t.isLt).1 = k2_pay8 (iblk2 V c 0 t) (iblk2 V c 1 t) := by
  by_cases h0 : t.val % 128 = 0
  · have h1 : ¬ t.val % 128 = 127 := by omega
    rw [outsAt2_A V c t h0 h1]
    frame_out
  · by_cases h1 : t.val % 128 = 127
    · rw [outsAt2_C V c t h0 h1]
      frame_out
    · rw [outsAt2_B V c t h0 h1]
      frame_out

/-- What each grid point stores as rows. -/
theorem outs_4 (c : Dev nD) (t : Fin cfg2.N) : (outsAt2 V c t.val t.isLt).2.1 = k2_pay9 (iblk2 V c 0 t) (iblk2 V c 1 t) (iblk2 V c 2 t) := by
  by_cases h0 : t.val % 128 = 0
  · have h1 : ¬ t.val % 128 = 127 := by omega
    rw [outsAt2_A V c t h0 h1]
    frame_out
  · by_cases h1 : t.val % 128 = 127
    · rw [outsAt2_C V c t h0 h1]
      frame_out
    · rw [outsAt2_B V c t h0 h1]
      frame_out

/-- The running sum after the first block. -/
theorem outs_5A (c : Dev nD) (t : Fin cfg2.N) (h0 : t.val % 128 = 0) (h1 : ¬ t.val % 128 = 127) :
    (outsAt2 V c t.val t.isLt).2.2 = k2_pay2 (k2_pay10 (iblk2 V c 0 t)) (k2_pay11 (iblk2 V c 0 t) (iblk2 V c 1 t)) (k2_pay1 (F := Ideal)) := by
  rw [outsAt2_A V c t h0 h1]
  frame_out

/-- The running sum after a later block. -/
theorem outs_5B (c : Dev nD) (t : Fin cfg2.N) (h0 : ¬ t.val % 128 = 0) (h1 : ¬ t.val % 128 = 127) :
    (outsAt2 V c t.val t.isLt).2.2 = k2_pay2 (k2_pay10 (iblk2 V c 0 t)) (k2_pay11 (iblk2 V c 0 t) (iblk2 V c 1 t))
      (outsAt2 V c (t.val - 1) (Nat.lt_of_le_of_lt (Nat.sub_le _ _) t.isLt)).2.2 := by
  rw [outsAt2_B V c t h0 h1]
  frame_out

/-- The running sum after the last block, scaled. -/
theorem outs_5C (c : Dev nD) (t : Fin cfg2.N) (h0 : ¬ t.val % 128 = 0) (h1 : t.val % 128 = 127) :
    (outsAt2 V c t.val t.isLt).2.2 = k2_pay3 (k2_pay2 (k2_pay10 (iblk2 V c 0 t)) (k2_pay11 (iblk2 V c 0 t) (iblk2 V c 1 t))
      (outsAt2 V c (t.val - 1) (Nat.lt_of_le_of_lt (Nat.sub_le _ _) t.isLt)).2.2) := by
  rw [outsAt2_C V c t h0 h1]
  frame_out

/-- What the first `n + 1` blocks add up to. -/
theorem running (c : Dev nD) : ∀ (n : ℕ) (hn : n < 127),
    (show Ideal .f32 from (outsAt2 V c n (by rw [show cfg2.N = 128 from N_2]; omega)).2.2 (ix2 0 0))
      = ∑ s : Fin (n + 1), part (iblk2 V c 0 ⟨s.val, by rw [show cfg2.N = 128 from N_2]; omega⟩) (iblk2 V c 1 ⟨s.val, by rw [show cfg2.N = 128 from N_2]; omega⟩) := by
  intro n
  induction n with
  | zero =>
    intro hn
    rw [outs_5A V c ⟨0, by rw [show cfg2.N = 128 from N_2]; omega⟩ (by decide) (by decide)]
    refine (step_at _ _ _).trans ?_
    rw [show (k2_pay1 (F := Ideal) (ix2 0 0)) = (0 : EReal) from pay1_at, zero_add, Fin.sum_univ_one]
    rfl
  | succ n ih =>
    intro hn
    rw [outs_5B V c ⟨n + 1, by rw [show cfg2.N = 128 from N_2]; omega⟩ (by show ¬ (n + 1) % 128 = 0; omega) (by show ¬ (n + 1) % 128 = 127; omega)]
    refine (step_at _ _ _).trans ?_
    rw [Fin.sum_univ_castSucc]
    exact congrArg₂ (fun a b : EReal => a + b) (ih (by omega)) rfl

/-- After the last block. -/
theorem loss_last (c : Dev nD) (n : ℕ) (hn : n + 1 = 127) :
    (show Ideal .f32 from (outsAt2 V c (n + 1) (by rw [show cfg2.N = 128 from N_2]; omega)).2.2 (ix2 0 0))
      = (∑ s : Fin (n + 1 + 1), part (iblk2 V c 0 ⟨s.val, by rw [show cfg2.N = 128 from N_2]; omega⟩) (iblk2 V c 1 ⟨s.val, by rw [show cfg2.N = 128 from N_2]; omega⟩)) * Ideal.ofBits .f32 872415232#32 := by
  rw [outs_5C V c ⟨n + 1, by rw [show cfg2.N = 128 from N_2]; omega⟩ (by show ¬ (n + 1) % 128 = 0; omega) (by show (n + 1) % 128 = 127; omega)]
  refine (pay3_at _).trans (congrArg₂ (fun a b : EReal => a * b) ((step_at _ _ _).trans ?_) rfl)
  rw [Fin.sum_univ_castSucc]
  exact congrArg₂ (fun a b : EReal => a + b) (running V c n (by omega)) rfl

/-- Position `n` of a table of columns. -/
def pos (Z : FVec Ideal S64x131072 .f32) (n : Fin 131072) (c : Fin 64) : EReal := Z (ix2 c n)

theorem blk_z (c : Dev nD) (t : Fin cfg2.N) (l : Fin 1024) (h : t.val * 1024 + l.val < 131072) :
    col (iblk2 V c 0 t) l = pos (V c main_v115) ⟨t.val * 1024 + l.val, h⟩ := by
  funext k
  unfold col pos
  blk_point [iblk2, idx2 t]

theorem blk_cb (c : Dev nD) (t : Fin cfg2.N) : rows (iblk2 V c 1 t) = rows (V c main_arg5) := by
  funext j k
  unfold rows
  blk_point [iblk2, idx2 t]

theorem blk_cbT (c : Dev nD) (t : Fin cfg2.N) (j : Fin 64) (k : Fin 1024) :
    (iblk2 V c 2 t) (ix2 j k) = (V c main_v116 : FVec Ideal S64x1024 .f32) (ix2 j k) := by
  blk_point [iblk2, idx2 t]

theorem word_y (x0 : Vec Ideal S64x1024 .f32) (w : Vec Ideal S1024x64 .f32) (y : S1x1x1024.Idx) :
    k2_pay8 x0 w y = BitVec.ofNat 32 (nearest (col x0 (y 2)) (rows w)).val := by
  have e : y = ix3 0 0 (y 2) := (eq_ix3 y).trans (congrArg₂ (fun a b => ix3 a b (y 2)) (Subsingleton.elim (α := Fin 1) _ _) (Subsingleton.elim (α := Fin 1) _ _))
  exact (congrArg (k2_pay8 x0 w) e).trans (pay8_at x0 w (y 2))

theorem row_y (x0 : Vec Ideal S64x1024 .f32) (w : Vec Ideal S1024x64 .f32) (v : Vec Ideal S64x1024 .f32) (y : S64x1024.Idx) :
    (show Ideal .f32 from k2_pay9 x0 w v y) = v (ix2 (y 0) (nearest (col x0 (y 1)) (rows w))) :=
  (congrArg (k2_pay9 x0 w v) (eq_ix2 y)).trans (row_at x0 w v (y 0) (y 1))

/-- The array of row numbers. -/
theorem final2_3 (c : Dev nD) : (dat2 V c).arrAt 3 cfg2.N
    = (fun j => BitVec.ofNat 32 (nearest (pos (V c main_v115) ⟨(j 0).val * 1024 + (j 2).val, by idx_bounds; omega⟩) (rows (V c main_arg5))).val : IVec S128x1x1024 32) := by
  refine (dat2 V c).arrAt_eq_of_covers 3 _ (by decide +kernel) fun t _ y => ?_
  blk_simp
  rw [after2_3, outs_3]
  refine (word_y _ _ y).trans ?_
  have i0 : win2_3.index t 0 = t.val := by rw [(idx2 t).2.2.2.1]; rfl
  have i2 : win2_3.index t 2 = 0 := by rw [(idx2 t).2.2.2.1]; rfl
  have ht : t.val < 128 := lt_of_lt_of_eq t.isLt N_2
  have hy : (y 2).val < 1024 := (y 2).isLt
  refine congrArg (fun k : Fin 1024 => BitVec.ofNat 32 k.val) (congrArg₂ nearest ((blk_z V c t (y 2) (by omega)).trans (congrArg (pos (V c main_v115)) (Fin.ext ?_))) (blk_cb V c t))
  show t.val * 1024 + (y 2).val = win2_3.index t 0 * 1024 + (win2_3.index t 2 * 1024 + (y 2).val)
  rw [i0, i2]
  omega

/-- The array of rows, as columns. -/
theorem final2_4 (c : Dev nD) : (dat2 V c).arrAt 4 cfg2.N
    = (fun j => (V c main_v116 : FVec Ideal S64x1024 .f32) (ix2 (j 0) (nearest (pos (V c main_v115) (j 1)) (rows (V c main_arg5)))) : FVec Ideal S64x131072 .f32) := by
  refine (dat2 V c).arrAt_eq_of_covers 4 _ (by decide +kernel) fun t _ y => ?_
  blk_simp
  rw [after2_4, outs_4]
  refine (row_y _ _ _ y).trans ((blk_cbT V c t _ _).trans ?_)
  have ht : t.val < 128 := lt_of_lt_of_eq t.isLt N_2
  have hy : (y 1).val < 1024 := (y 1).isLt
  have e0 : (win2_4.blk t).view.emb y 0 = y 0 := Fin.ext (by blk_simp [idx2 t])
  have e1 : (win2_4.blk t).view.emb y 1 = (⟨t.val * 1024 + (y 1).val, by omega⟩ : Fin 131072) := Fin.ext (by blk_simp [idx2 t])
  refine congrArg₂ (fun (a : Fin 64) (b : Fin 1024) => (V c main_v116 : FVec Ideal S64x1024 .f32) (ix2 a b)) e0.symm (congrArg₂ nearest ?_ (blk_cb V c t))
  exact (blk_z V c t (y 1) (by omega)).trans (congrArg (pos (V c main_v115)) e1.symm)

theorem sum_resize (k : ℕ) (hk : k = 128) (T : (n : ℕ) → n < 128 → EReal) :
    (∑ s : Fin k, T s.val (by omega)) = ∑ s : Fin 128, T s.val s.isLt := by
  subst hk; rfl

/-- The one-entry array of the loss. -/
theorem final2_5 (c : Dev nD) : (dat2 V c).arrAt 5 cfg2.N
    = (fun _ => (∑ s : Fin 128, part (iblk2 V c 0 ⟨s.val, by rw [show cfg2.N = 128 from N_2]; omega⟩) (iblk2 V c 1 ⟨s.val, by rw [show cfg2.N = 128 from N_2]; omega⟩)) * Ideal.ofBits .f32 872415232#32 : FVec Ideal S1x1 .f32) := by
  refine (dat2 V c).arrAt_eq_of_covers 5 _ (by decide +kernel) fun t hf y => ?_
  have ht := (flush2_5 t).mp hf
  have hN : t.val < 128 := lt_of_lt_of_eq t.isLt N_2
  blk_simp
  rw [after2_5]
  have e : (y : S1x1.Idx) = ix2 0 0 := (eq_ix2 (y : S1x1.Idx)).trans (congrArg₂ (fun a b => ix2 a b) (Subsingleton.elim (α := Fin 1) _ _) (Subsingleton.elim (α := Fin 1) _ _))
  refine (congrArg (outsAt2 V c t.val t.isLt).2.2 e).trans ?_
  obtain ⟨m, hm⟩ := t
  obtain ⟨n, rfl⟩ : ∃ n, m = n + 1 := ⟨m - 1, by dsimp only at ht hN; omega⟩
  refine (loss_last V c n (by dsimp only at ht hN; omega)).trans (congrArg₂ (fun a b : EReal => a * b) ?_ rfl)
  exact sum_resize (n + 1 + 1) (by dsimp only at ht hN; omega) fun m h => part (iblk2 V c 0 ⟨m, by rw [show cfg2.N = 128 from N_2]; omega⟩) (iblk2 V c 1 ⟨m, by rw [show cfg2.N = 128 from N_2]; omega⟩)

end Cert.KernelIdeal.Value
-- ==== Proof.KOutDec.lean ====
module

public import proofs.«01_k».proof.Proof.Blocks
public import proofs.«01_k».proof.Proof.Gen.KernelIdeal.Frame
public import proofs.«01_k».proof.Proof.KOutEnc
public import proofs.«01_k».proof.Proof.KHostDec
public import proofs.«01_k».proof.Proof.KQuant
public import Idealize.ShloMosaic.Lib.Pipeline.ValueKit
public import Idealize.ShloMosaic.Lib.StableHlo.ReadAt
public import Idealize.ShloMosaic.Lib.Pointwise
public import Idealize.ShloMosaic.PureOps.Ideal

/-! The kernel's three results: the nearest codebook rows, the loss, and the reconstruction, each an entry of the
    network's formula. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Value

open Cert.KernelIdeal Cert.KernelIdeal.Gen Cert.Net

variable (m : (ℓ : Loc nD τ sig) → Buf (Elt Ideal) ℓ) (ρ : Dev nD → PrngReg) (c : Dev nD)

theorem at_pos (n : Fin 131072) : pos (V15 m ρ c main_v115) n = zrow (latent (args m c)) n := by
  funext k
  unfold pos zrow
  have e : n = ⟨(⟨n.val / 16384, by omega⟩ : Fin 8).val * 16384 + (⟨n.val % 16384, by omega⟩ : Fin 16384).val, by simp only []; omega⟩ :=
    Fin.ext (by simp only []; omega)
  rw [e]
  refine (h2z (W14 m ρ c) k ⟨n.val / 16384, by omega⟩ ⟨n.val % 16384, by omega⟩).trans ((at_latent m ρ c _ k _).trans ?_)
  congr 1 <;> exact Fin.ext (by simp only []; omega)

theorem at_rows : rows (V15 m ρ c main_arg5) = (args m c).cb := by
  funext j k
  unfold rows
  have e : V15 m ρ c main_arg5 = _ := W15_args m ρ c main_arg5 (by decide)
  rw [e]
  rfl

theorem at_code (t : Fin 128) (l : Fin 1024) :
    (W16 m ρ c (Proc.devRef .tc main_v117_0) : IVec S128x1x1024 32) (ix3 t 0 l)
      = BitVec.ofNat 32 (code (args m c) ⟨t.val * 1024 + l.val, by omega⟩).val := by
  have e : (W16 m ρ c (Proc.devRef .tc main_v117_0) : IVec S128x1x1024 32) = _ := (W16_arr m ρ c 3).trans (final2_3 (V15 m ρ) c)
  refine (congrFun e (ix3 t 0 l)).trans ?_
  unfold code
  rw [← at_pos m ρ c, ← at_rows m ρ c]
  rfl

theorem at_quant (k : Fin 64) (n : Fin 131072) :
    (W16 m ρ c (Proc.devRef .tc main_v117_1) : FVec Ideal S64x131072 .f32) (ix2 k n) = (args m c).cb (code (args m c) n) k := by
  have e : (W16 m ρ c (Proc.devRef .tc main_v117_1) : FVec Ideal S64x131072 .f32) = _ := (W16_arr m ρ c 4).trans (final2_4 (V15 m ρ) c)
  refine (congrFun e (ix2 k n)).trans ((h2c (W14 m ρ c) k _).trans ?_)
  rw [W14_args m ρ c main_arg5 (by decide)]
  unfold code
  rw [← at_pos m ρ c, ← at_rows m ρ c]
  exact congrFun (congrFun (at_rows m ρ c).symm _) k

theorem at_index (n : Fin 131072) :
    (W21 m ρ c (Proc.devRef .tc main_v118) : IVec S131072 32) (ix1 n) = BitVec.ofNat 32 (code (args m c) n).val := by
  rw [W21_of m ρ c main_v118 (by decide), W20_of m ρ c main_v118 (by decide), W19_of m ρ c main_v118 (by decide), W18_of m ρ c main_v118 (by decide)]
  have e : n = ⟨(⟨n.val / 1024, by omega⟩ : Fin 128).val * 1024 + (⟨n.val % 1024, by omega⟩ : Fin 1024).val, by simp only []; omega⟩ :=
    Fin.ext (by simp only []; omega)
  rw [e]
  exact (h3i (W16 m ρ c) ⟨n.val / 1024, by omega⟩ ⟨n.val % 1024, by omega⟩).trans (at_code m ρ c _ _)

theorem at_picked (b : Fin 8) (i : Fin 64) (r s : Fin 128) :
    (W17 m ρ c (Proc.devRef .tc main_v121) : FVec Ideal S8x64x16384 .f32) (ix3 b i ⟨r.val * 128 + s.val, by omega⟩) = picked (args m c) b i r s := by
  refine (h3q (W16 m ρ c) b i ⟨r.val * 128 + s.val, by omega⟩).trans ((at_quant m ρ c i _).trans ?_)
  unfold picked
  exact congrArg (fun n => (args m c).cb (code (args m c) n) i) (Fin.ext (by simp only []; omega))

theorem at_u1 (i : Fin 64) (o : Fin 32) (kh kw : Fin 4) :
    (W17 m ρ c (Proc.devRef .tc main_v186) : FVec Ideal S16x32x64 .f32) (ix3 ⟨4 * kh.val + kw.val, by omega⟩ o i) = (args m c).u1 i o kh kw := by
  refine (h3w (W16 m ρ c) ⟨4 * kh.val + kw.val, by omega⟩ o i).trans ?_
  rw [W16_args m ρ c main_arg6 (by decide)]
  have e1 : (4 * kh.val + kw.val) / 4 = kh.val := by omega
  have e2 : (4 * kh.val + kw.val) % 4 = kw.val := by omega
  simp only [e1, e2]
  rfl

theorem at_c1 (o : Fin 32) : (W17 m ρ c (Proc.devRef .tc main_v187) : FVec Ideal S32x1 .f32) (ix2 o 0) = (args m c).c1 o := by
  refine (h3b (W16 m ρ c) o).trans ?_
  rw [W16_args m ρ c main_arg7 (by decide)]
  rfl

/-- A layer's four phases put in place. -/
theorem tconvAt_phase {I n : ℕ} (w : Fin I → Fin 4 → Fin 4 → EReal) (b : EReal) (f : Fin I → Fin n → Fin n → EReal) (p q : Fin 2) (y x Y X : ℕ)
    (hY : Y = 2 * y + p.val) (hX : X = 2 * x + q.val) : tconvAt w b f Y X = tconv w b f p q y x := by
  subst hY hX
  unfold tconvAt
  congr 1
  · exact Fin.ext (by simp only []; omega)
  · exact Fin.ext (by simp only []; omega)
  · omega
  · omega

theorem at_phase1 (b : Fin 8) (o : Fin 32) (y x : Fin 128) (p q : Fin 2) :
    (W18 m ρ c (Proc.devRef .tc main_v188) : FVec Ideal S8x4x32x16384 .f32) (ix4 b ⟨2 * p.val + q.val, by omega⟩ o ⟨y.val * 128 + x.val, by omega⟩)
      = middle (args m c) b o ⟨2 * y.val + p.val, by omega⟩ ⟨2 * x.val + q.val, by omega⟩ := by
  have e : (W18 m ρ c (Proc.devRef .tc main_v188) : FVec Ideal S8x4x32x16384 .f32) = _ :=
    (W18_arr m ρ c 3).trans (final3 (V17 m ρ) c (picked (args m c)) (args m c).u1 (args m c).c1 (at_picked m ρ c) (at_u1 m ρ c) (at_c1 m ρ c))
  refine (congrFun e (ix4 b ⟨2 * p.val + q.val, by omega⟩ o ⟨y.val * 128 + x.val, by omega⟩)).trans ?_
  unfold middle
  refine congrArg (fun u : EReal => max u 0) ?_
  rw [tconvAt_phase _ _ _ p q y.val x.val _ _ rfl rfl]
  show tconv _ _ _ ⟨(2 * p.val + q.val) / 2, _⟩ ⟨(2 * p.val + q.val) % 2, _⟩ ((y.val * 128 + x.val) / 128) ((y.val * 128 + x.val) % 128) = _
  congr 1
  · exact Fin.ext (by simp only []; omega)
  · exact Fin.ext (by simp only []; omega)
  · omega
  · omega

theorem at_middle (b : Fin 8) (o : Fin 32) (r s : Fin 256) :
    (W19 m ρ c (Proc.devRef .tc main_v191) : FVec Ideal S8x32x65536 .f32) (ix3 b o ⟨r.val * 256 + s.val, by omega⟩) = middle (args m c) b o r s := by
  have h := (h4d (W18 m ρ c) b o ⟨r.val / 2, by omega⟩ ⟨s.val / 2, by omega⟩ ⟨r.val % 2, by omega⟩ ⟨s.val % 2, by omega⟩).trans
    (at_phase1 m ρ c b o ⟨r.val / 2, by omega⟩ ⟨s.val / 2, by omega⟩ ⟨r.val % 2, by omega⟩ ⟨s.val % 2, by omega⟩)
  have e1 : 2 * (r.val / 2) + r.val % 2 = r.val := by omega
  have e2 : 2 * (s.val / 2) + s.val % 2 = s.val := by omega
  simp only [e1, e2] at h
  exact h

theorem at_u2 (i : Fin 32) (kh kw : Fin 4) :
    (W19 m ρ c (Proc.devRef .tc main_v240) : FVec Ideal S16x32 .f32) (ix2 ⟨4 * kh.val + kw.val, by omega⟩ i) = (args m c).u2 i 0 kh kw := by
  refine (h4w (W18 m ρ c) ⟨4 * kh.val + kw.val, by omega⟩ i).trans ?_
  rw [W18_args m ρ c main_arg8 (by decide)]
  have e1 : (4 * kh.val + kw.val) / 4 = kh.val := by omega
  have e2 : (4 * kh.val + kw.val) % 4 = kw.val := by omega
  simp only [e1, e2]
  rfl

theorem at_c2 : (W19 m ρ c (Proc.devRef .tc main_v241) : FVec Ideal S1x1 .f32) (ix2 0 0) = (args m c).c2 0 := by
  refine (h4b (W18 m ρ c)).trans ?_
  rw [W18_args m ρ c main_arg9 (by decide)]
  rfl

theorem at_phase2 (b : Fin 8) (y x : Fin 256) (p q : Fin 2) :
    (W20 m ρ c (Proc.devRef .tc main_v242) : FVec Ideal S8x4x256x256 .f32) (ix4 b ⟨2 * p.val + q.val, by omega⟩ y x)
      = image (args m c) b 0 ⟨2 * y.val + p.val, by omega⟩ ⟨2 * x.val + q.val, by omega⟩ := by
  have e : (W20 m ρ c (Proc.devRef .tc main_v242) : FVec Ideal S8x4x256x256 .f32) = _ :=
    (W20_arr m ρ c 3).trans (final4 (V19 m ρ) c (middle (args m c)) (fun i => (args m c).u2 i 0) ((args m c).c2 0) (at_middle m ρ c) (at_u2 m ρ c) (at_c2 m ρ c))
  refine (congrFun e (ix4 b ⟨2 * p.val + q.val, by omega⟩ y x)).trans ?_
  unfold image
  refine congrArg Ideal.logistic ?_
  rw [tconvAt_phase _ _ _ p q y.val x.val _ _ rfl rfl]
  show tconv _ _ _ ⟨(2 * p.val + q.val) / 2, _⟩ ⟨(2 * p.val + q.val) % 2, _⟩ y.val x.val = _
  congr 1
  · exact Fin.ext (by simp only []; omega)
  · exact Fin.ext (by simp only []; omega)

theorem at_image (b : Fin 8) (o : Fin 1) (y x : Fin 512) :
    (W21 m ρ c (Proc.devRef .tc main_v245) : FVec Ideal S8x1x512x512 .f32) (ix4 b o y x) = image (args m c) b o y x := by
  have h := (h5 (W20 m ρ c) b ⟨y.val / 2, by omega⟩ ⟨x.val / 2, by omega⟩ ⟨y.val % 2, by omega⟩ ⟨x.val % 2, by omega⟩).trans
    (at_phase2 m ρ c b ⟨y.val / 2, by omega⟩ ⟨x.val / 2, by omega⟩ ⟨y.val % 2, by omega⟩ ⟨x.val % 2, by omega⟩)
  have e1 : 2 * (y.val / 2) + y.val % 2 = y.val := by omega
  have e2 : 2 * (x.val / 2) + x.val % 2 = x.val := by omega
  simp only [e1, e2] at h
  rw [Subsingleton.elim o 0]
  exact h

/-- One step's sum: the squared distances of its positions. -/
theorem part_total (hR : (args m c).Real) (t : Fin cfg2.N) :
    part (iblk2 (V15 m ρ) c 0 t) (iblk2 (V15 m ρ) c 1 t) = ∑ l : Fin 1024, ∑ k : Fin 64,
      (zrow (latent (args m c)) ⟨t.val * 1024 + l.val, by have := lt_of_lt_of_eq t.isLt N_2; omega⟩ k - (args m c).cb (code (args m c) ⟨t.val * 1024 + l.val, by have := lt_of_lt_of_eq t.isLt N_2; omega⟩) k)
        * (zrow (latent (args m c)) ⟨t.val * 1024 + l.val, by have := lt_of_lt_of_eq t.isLt N_2; omega⟩ k - (args m c).cb (code (args m c) ⟨t.val * 1024 + l.val, by have := lt_of_lt_of_eq t.isLt N_2; omega⟩) k) := by
  have ht : t.val < 128 := lt_of_lt_of_eq t.isLt N_2
  unfold part
  rw [Finset.sum_comm, ← Finset.sum_add_distrib]
  refine Finset.sum_congr rfl fun l _ => ?_
  rw [blk_z (V15 m ρ) c t l (by omega), blk_cb (V15 m ρ) c t, at_pos, at_rows]
  exact (sq_dist _ _ (fun k => latent_isR hR _ _ _ _) hR.cb _).symm

theorem scale_word : (Ideal.ofBits FTy.f32 872415232#32 : EReal) = ((1 / 8388608 : ℝ) : EReal) := by
  simp [Ideal.ofBits, Ideal.ieee]
  rw [← EReal.coe_mul]
  norm_num

theorem count_word : (Ideal.ofBits FTy.f32 1258291200#32 : EReal) = ((8388608 : ℝ) : EReal) := by
  simp [Ideal.ofBits, Ideal.ieee]

theorem at_sum (hR : (args m c).Real) : (∑ s : Fin 128, part (iblk2 (V15 m ρ) c 0 ⟨s.val, lt_of_lt_of_eq s.isLt N_2.symm⟩) (iblk2 (V15 m ρ) c 1 ⟨s.val, lt_of_lt_of_eq s.isLt N_2.symm⟩)) = total (args m c) := by
  unfold total
  refine ((sum_blocks 128 1024 _).trans ?_).symm
  refine Finset.sum_congr rfl fun t _ => ?_
  rw [part_total m ρ c hR]
  refine Finset.sum_congr rfl fun l _ => ?_
  have e : ∀ (h : l.val + 1024 * t.val < 128 * 1024) (h' : t.val * 1024 + l.val < 131072), (⟨l.val + 1024 * t.val, h⟩ : Fin 131072) = ⟨t.val * 1024 + l.val, h'⟩ :=
    fun _ _ => Fin.ext (by simp only []; omega)
  rw [e _ (by omega)]

theorem total_isR (hR : (args m c).Real) : IsR (total (args m c)) :=
  IsR.sum _ _ fun n => IsR.sum _ _ fun k => by
    obtain ⟨a, ha⟩ := latent_isR hR ⟨n.val / 16384, by omega⟩ k ⟨n.val / 128 % 128, by omega⟩ ⟨n.val % 128, by omega⟩
    obtain ⟨b, hb⟩ := hR.cb (code (args m c) n) k
    unfold zrow
    rw [ha, hb]
    exact ⟨(a - b) * (a - b), by rw [← EReal.coe_sub, ← EReal.coe_mul]⟩

theorem scaled (a : EReal) (h : IsR a) : a * (Ideal.ofBits FTy.f32 872415232#32 : EReal) = Ideal.div a (Ideal.ofBits FTy.f32 1258291200#32) := by
  obtain ⟨r, rfl⟩ := h
  rw [scale_word, count_word]
  unfold Ideal.div
  rw [if_neg (by exact_mod_cast (by norm_num : (8388608 : ℝ) ≠ 0)), ← EReal.coe_inv, ← EReal.coe_mul, ← EReal.coe_mul, one_div]

theorem at_loss (hR : (args m c).Real) :
    (show Ideal .f32 from (W21 m ρ c (Proc.devRef .tc main_v119) : FVec Ideal S_ .f32) ix0) = loss (args m c) := by
  rw [W21_of m ρ c main_v119 (by decide), W20_of m ρ c main_v119 (by decide), W19_of m ρ c main_v119 (by decide), W18_of m ρ c main_v119 (by decide)]
  have e : (W16 m ρ c (Proc.devRef .tc main_v117_2) : FVec Ideal S1x1 .f32) = _ := (W16_arr m ρ c 5).trans (final2_5 (V15 m ρ) c)
  refine (h3l (W16 m ρ c)).trans ((congrFun e (ix2 0 0)).trans ?_)
  refine (congrArg (fun u : EReal => u * (Ideal.ofBits FTy.f32 872415232#32 : EReal)) (at_sum m ρ c hR)).trans ?_
  exact scaled _ (total_isR m c hR)

end Cert.KernelIdeal.Value
-- ==== Proof.RefConv.lean ====
module

public import proofs.«01_k».proof.Proof.RefRun
public import proofs.«01_k».proof.Proof.Spec
public import Idealize.ShloMosaic.Lib.StableHlo.ReadAt
public import Idealize.ShloMosaic.Lib.Pointwise

/-! What the reference's convolution stages leave, read one element at a time: each stage's array in terms of
    the array the stage before it left. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Net

variable (V : Valuation τ sig (Elt Ideal))

theorem zero_of_word : (FloatOps.sitofp FTy.f32 0#32 : Ideal .f32) = (0 : EReal) := by
  show ((((0#32 : BitVec 32).toInt : ℤ) : ℝ) : EReal) = 0
  simp

theorem spread_eq {n : ℕ} (f : Fin n → Fin n → EReal) (r c : ℕ) :
    (if h : (2 ≤ r ∧ (r - 2) % 2 = 0 ∧ (r - 2) / 2 < n) ∧ 2 ≤ c ∧ (c - 2) % 2 = 0 ∧ (c - 2) / 2 < n then
      f ⟨(r - 2) / 2, h.1.2.2⟩ ⟨(c - 2) / 2, h.2.2.2⟩ else 0) = spread f r c := by
  unfold spread px
  by_cases h : (2 ≤ r ∧ (r - 2) % 2 = 0 ∧ (r - 2) / 2 < n) ∧ 2 ≤ c ∧ (c - 2) % 2 = 0 ∧ (c - 2) / 2 < n
  · rw [dif_pos h, if_pos (by omega), dif_pos (by omega)]
    congr 1 <;> exact Fin.ext (by dsimp only; omega)
  · rw [dif_neg h]
    by_cases h2 : r % 2 = 0 ∧ c % 2 = 0
    · rw [if_pos h2, dif_neg (by omega)]
    · rw [if_neg h2]

theorem stA0 (b : Fin 8) (i : Fin 1) (r s : Fin 514) :
    (after opsA0 V (Proc.devRef .tc main_v0) : FVec Ideal S8x1x514x514 .f32) (ix4 b i r s)
      = px (fun y x => (V (Proc.devRef .tc main_arg0) : FVec Ideal S8x1x512x512 .f32) (ix4 b i y x)) r.val s.val := by
  obtain rfl : i = 0 := Subsingleton.elim _ _
  simp only [opsA0, H0, List.cons_append, List.nil_append]
  after_reads_simp
  try simp -implicitDefEqProofs only [StableHlo.TRef.toBuf, StableHlo.TRef.ofBuf, cast_cast, cast_eq]
  clean_types
  pointwise
  rw [zero_of_word]
  rfl

theorem stB0 (b : Fin 8) (i : Fin 32) (r s : Fin 258) :
    (after opsB0 V (Proc.devRef .tc main_v106) : FVec Ideal S8x32x258x258 .f32) (ix4 b i r s)
      = px (fun y x => (V (Proc.devRef .tc main_v105) : FVec Ideal S8x32x256x256 .f32) (ix4 b i y x)) r.val s.val := by
  skip
  simp only [opsB0, H1r, List.cons_append, List.nil_append]
  after_reads_simp
  try simp -implicitDefEqProofs only [StableHlo.TRef.toBuf, StableHlo.TRef.ofBuf, cast_cast, cast_eq]
  clean_types
  pointwise
  rw [zero_of_word]
  rfl

theorem stA (X : Fin 8 → Fin 1 → Fin 512 → Fin 512 → EReal)
    (hX : ∀ b i (r s : Fin 514), (V (Proc.devRef .tc main_v0) : FVec Ideal S8x1x514x514 .f32) (ix4 b i r s) = px (X b i) r.val s.val)
    (b : Fin 8) (o : Fin 32) (y x : Fin 256) :
    (after opsA V (Proc.devRef .tc main_v105) : FVec Ideal S8x32x256x256 .f32) (ix4 b o y x)
      = conv (fun i kh kw => (V (Proc.devRef .tc main_arg1) : FVec Ideal S32x1x4x4 .f32) (ix4 o i kh kw))
          ((V (Proc.devRef .tc main_arg2) : FVec Ideal S32 .f32) (ix1 o)) (X b) y.val x.val := by
  simp only [opsA, H0, H1, List.cons_append, List.nil_append]
  after_reads_simp
  try simp -implicitDefEqProofs only [StableHlo.TRef.toBuf, StableHlo.TRef.ofBuf, cast_cast, cast_eq]
  clean_types
  pointwise
  rw [conv_taps]
  rw [Fin.sum_univ_one, Fin.sum_univ_one]
  simp only [hX]
  done

theorem stB (X : Fin 8 → Fin 32 → Fin 256 → Fin 256 → EReal)
    (hX : ∀ b i (r s : Fin 258), (V (Proc.devRef .tc main_v106) : FVec Ideal S8x32x258x258 .f32) (ix4 b i r s) = px (X b i) r.val s.val)
    (b : Fin 8) (o : Fin 64) (y x : Fin 128) :
    (after opsB V (Proc.devRef .tc main_v211) : FVec Ideal S8x64x128x128 .f32) (ix4 b o y x)
      = conv (fun i kh kw => (V (Proc.devRef .tc main_arg3) : FVec Ideal S64x32x4x4 .f32) (ix4 o i kh kw))
          ((V (Proc.devRef .tc main_arg4) : FVec Ideal S64 .f32) (ix1 o)) (X b) y.val x.val := by
  simp only [opsB, H1r, P2, H3, List.cons_append, List.nil_append]
  after_reads_simp
  try simp -implicitDefEqProofs only [StableHlo.TRef.toBuf, StableHlo.TRef.ofBuf, cast_cast, cast_eq]
  clean_types
  pointwise
  rw [conv_taps]
  skip
  simp only [hX]
  done

theorem stD0 (b : Fin 8) (i : Fin 64) (r s : Fin 259) :
    (after opsD0 V (Proc.devRef .tc main_v239) : FVec Ideal S8x64x259x259 .f32) (ix4 b i r s)
      = spread (fun y x => (V (Proc.devRef .tc main_v238) : FVec Ideal S8x64x128x128 .f32) (ix4 b i y x)) r.val s.val := by
  simp only [opsD0, H4r, List.cons_append, List.nil_append]
  after_reads_simp
  try simp -implicitDefEqProofs only [StableHlo.TRef.toBuf, StableHlo.TRef.ofBuf, cast_cast, cast_eq]
  clean_types
  pointwise
  exact spread_eq (fun y x => (V (Proc.devRef .tc main_v238) : FVec Ideal S8x64x128x128 .f32) (ix4 b i y x)) r.val s.val

theorem stE0 (b : Fin 8) (i : Fin 32) (r s : Fin 515) :
    (after opsE0 V (Proc.devRef .tc main_v345) : FVec Ideal S8x32x515x515 .f32) (ix4 b i r s)
      = spread (fun y x => (V (Proc.devRef .tc main_v344) : FVec Ideal S8x32x256x256 .f32) (ix4 b i y x)) r.val s.val := by
  simp only [opsE0, H6r, List.cons_append, List.nil_append]
  after_reads_simp
  try simp -implicitDefEqProofs only [StableHlo.TRef.toBuf, StableHlo.TRef.ofBuf, cast_cast, cast_eq]
  clean_types
  pointwise
  exact spread_eq (fun y x => (V (Proc.devRef .tc main_v344) : FVec Ideal S8x32x256x256 .f32) (ix4 b i y x)) r.val s.val

theorem stD (X : Fin 8 → Fin 64 → Fin 128 → Fin 128 → EReal)
    (hX : ∀ b i (r s : Fin 259), (V (Proc.devRef .tc main_v239) : FVec Ideal S8x64x259x259 .f32) (ix4 b i r s) = spread (X b i) r.val s.val)
    (b : Fin 8) (o : Fin 32) (y x : Fin 256) :
    (after opsD V (Proc.devRef .tc main_v344) : FVec Ideal S8x32x256x256 .f32) (ix4 b o y x)
      = max (tconvAt (fun i kh kw => (V (Proc.devRef .tc main_arg6) : FVec Ideal S64x32x4x4 .f32) (ix4 i o kh kw))
          ((V (Proc.devRef .tc main_arg7) : FVec Ideal S32 .f32) (ix1 o)) (X b) y.val x.val) 0 := by
  skip
  simp only [opsD, H4r, P5, H6, List.cons_append, List.nil_append]
  after_reads_simp
  try simp -implicitDefEqProofs only [StableHlo.TRef.toBuf, StableHlo.TRef.ofBuf, cast_cast, cast_eq]
  clean_types
  pointwise
  rw [tconvAt_taps]
  simp only [hX]
  done

theorem stE (X : Fin 8 → Fin 32 → Fin 256 → Fin 256 → EReal)
    (hX : ∀ b i (r s : Fin 515), (V (Proc.devRef .tc main_v345) : FVec Ideal S8x32x515x515 .f32) (ix4 b i r s) = spread (X b i) r.val s.val)
    (b : Fin 8) (o : Fin 1) (y x : Fin 512) :
    (after opsE V (Proc.devRef .tc main_v438) : FVec Ideal S8x1x512x512 .f32) (ix4 b o y x)
      = Ideal.logistic (tconvAt (fun i kh kw => (V (Proc.devRef .tc main_arg8) : FVec Ideal S32x1x4x4 .f32) (ix4 i o kh kw))
          ((V (Proc.devRef .tc main_arg9) : FVec Ideal S1 .f32) (ix1 o)) (X b) y.val x.val) := by
  obtain rfl : o = 0 := Subsingleton.elim _ _
  simp only [opsE, H6r, P7, List.cons_append, List.nil_append]
  after_reads_simp
  try simp -implicitDefEqProofs only [StableHlo.TRef.toBuf, StableHlo.TRef.ofBuf, cast_cast, cast_eq]
  clean_types
  pointwise
  rw [tconvAt_taps]
  simp only [hX]
  rfl

end Cert.ReferenceIdeal.Value
-- ==== Proof.RefVq.lean ====
module

public import proofs.«01_k».proof.Proof.RefRun
public import proofs.«01_k».proof.Proof.Spec
public import Idealize.ShloMosaic.Lib.StableHlo.ReadAt
public import Idealize.ShloMosaic.Lib.Pointwise
public import Idealize.ShloMosaic.Lib.Routing.OpsSet
public import Idealize.ShloMosaic.Lib.Routing.OpsPair

/-! What the reference's vector-quantization stages leave, read one element at a time: the distances, the row
    picked by the arg-min, the row looked up, and the mean squared distance. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Net

variable (V : Valuation τ sig (Elt Ideal))

theorem two_word : (Ideal.ofBits FTy.f32 1073741824#32 : EReal) = 2 := by
  rw [two_coe]
  simp [Ideal.ofBits, Ideal.ieee]
  rw [← EReal.coe_mul]
  norm_num

theorem top_word : (Ideal.ofBits FTy.f32 2139095040#32 : EReal) = ⊤ := by
  simp [Ideal.ofBits, Ideal.ieee]

theorem stC1z (n : Fin 131072) (c : Fin 64) :
    (after opsC1 V (Proc.devRef .tc main_v213) : FVec Ideal S131072x64 .f32) (ix2 n c)
      = zrow (fun b c y x => (V (Proc.devRef .tc main_v211) : FVec Ideal S8x64x128x128 .f32) (ix4 b c y x)) n c := by
  simp only [opsC1, H3r, List.cons_append, List.nil_append]
  after_reads_simp
  try simp -implicitDefEqProofs only [StableHlo.TRef.toBuf, StableHlo.TRef.ofBuf, cast_cast, cast_eq]
  clean_types
  pointwise
  rfl

theorem stC1d (n : Fin 131072) (j : Fin 1024) :
    (after opsC1 V (Proc.devRef .tc main_v227) : FVec Ideal S131072x1024 .f32) (ix2 n j)
      = fullDist (zrow (fun b c y x => (V (Proc.devRef .tc main_v211) : FVec Ideal S8x64x128x128 .f32) (ix4 b c y x)) n)
          (fun j c => (V (Proc.devRef .tc main_arg5) : FVec Ideal S1024x64 .f32) (ix2 j c)) j := by
  simp only [opsC1, H3r, List.cons_append, List.nil_append]
  after_reads_simp
  try simp -implicitDefEqProofs only [StableHlo.TRef.toBuf, StableHlo.TRef.ofBuf, cast_cast, cast_eq]
  clean_types
  pointwise
  rw [two_word]
  rfl

/-! ## The arg-min -/

/-- The (value, index) pairs of one row, in column order. -/
theorem fiber_eq (x : S131072x1024.Idx → Ideal .f32) (y : S131072x1024.Idx → BitVec 32) (h : S131072x1024.ReducesTo [1] S131072) (n : Fin 131072) :
    Host.argReduceFiber x y h (ix1 n) = (List.finRange 1024).map fun j => (x (ix2 n j), y (ix2 n j)) := by
  have key : ((List.finRange S131072x1024.numel).filter fun m => h.drop (S131072x1024.rowMajor.symm m) = ix1 n)
      = (List.finRange 1024).map fun j : Fin 1024 => S131072x1024.rowMajor (ix2 n j) := by
    have s1 : ((List.finRange S131072x1024.numel).filter fun m => h.drop (S131072x1024.rowMajor.symm m) = ix1 n).Pairwise (· < ·) :=
      (List.pairwise_lt_finRange _).filter _
    have s2 : ((List.finRange 1024).map fun j : Fin 1024 => S131072x1024.rowMajor (ix2 n j)).Pairwise (· < ·) := by
      rw [List.pairwise_map]
      refine (List.pairwise_lt_finRange _).imp fun {a b} hab => ?_
      show (S131072x1024.rowMajor _).val < (S131072x1024.rowMajor _).val
      rw [Shape.rowMajor_val_two, Shape.rowMajor_val_two]
      exact Nat.add_lt_add_left hab _
    refine List.Perm.eq_of_pairwise (fun a b _ _ hab hba => absurd hab (lt_asymm hba)) s1 s2 ?_
    rw [List.perm_ext_iff_of_nodup (s1.imp ne_of_lt) (s2.imp ne_of_lt)]
    intro m
    simp only [List.mem_filter, List.mem_finRange, true_and, decide_eq_true_eq, List.mem_map]
    constructor
    · intro e
      refine ⟨S131072x1024.rowMajor.symm m 1, ?_⟩
      refine (congrArg S131072x1024.rowMajor (funext fun a => ?_)).trans (S131072x1024.rowMajor.apply_symm_apply m)
      match a with
      | ⟨0, _⟩ =>
        have := congrArg (fun f : S131072.Idx => (f 0).val) e
        exact Fin.ext this.symm
      | ⟨1, _⟩ => exact Fin.ext rfl
    · rintro ⟨c, rfl⟩
      rw [Equiv.symm_apply_apply]
      funext b
      match b with
      | ⟨0, _⟩ => exact Fin.ext rfl
  rw [Host.argReduceFiber, key, List.map_map]
  refine List.map_congr_left fun j _ => ?_
  simp only [Function.comp, Equiv.symm_apply_apply]

theorem reducer_lt (a b : EReal × BitVec 32) (h : a.1 < b.1) : reducer_argmin_f32_i32 (F := Ideal) a b = a := by
  obtain ⟨a1, a2⟩ := a
  obtain ⟨b1, b2⟩ := b
  have h' : a1 < b1 := h
  simp [reducer_argmin_f32_i32, Ideal.cmpf_def, Ideal.cmp, h', ne_of_lt h', IntOp.ori, IntOp.andi, Scalar.select]

theorem reducer_gt (a b : EReal × BitVec 32) (h : b.1 < a.1) : reducer_argmin_f32_i32 (F := Ideal) a b = b := by
  obtain ⟨a1, a2⟩ := a
  obtain ⟨b1, b2⟩ := b
  have h' : b1 < a1 := h
  simp [reducer_argmin_f32_i32, Ideal.cmpf_def, Ideal.cmp, not_lt_of_gt h', ne_of_gt h', IntOp.ori, IntOp.andi, Scalar.select]

theorem reducer_eq (u : EReal) (i j : Fin 1024) (h : i < j) :
    reducer_argmin_f32_i32 (F := Ideal) (u, BitVec.ofNat 32 i.val) (u, BitVec.ofNat 32 j.val) = (u, BitVec.ofNat 32 i.val) := by
  have hs : (BitVec.ofNat 32 i.val).slt (BitVec.ofNat 32 j.val) = true := by
    rw [BitVec.slt_iff_toInt_lt, BitVec.toInt_eq_toNat_of_lt (by simp; omega), BitVec.toInt_eq_toNat_of_lt (by simp; omega)]
    simp only [BitVec.toNat_ofNat]
    have : i.val < j.val := h
    omega
  simp [reducer_argmin_f32_i32, Ideal.cmpf_def, Ideal.cmp, hs, IntOp.ori, IntOp.andi, IntOp.cmpi, Scalar.select]

theorem argmin_at (x : FVec Ideal S131072x1024 .f32) (D : Fin 131072 → Fin 1024 → EReal) (hx : ∀ n j, x (ix2 n j) = D n j)
    (hD : ∀ n j, IsR (D n j)) (h : S131072x1024.ReducesTo [1] S131072) (hu : 0 < S_.numel) (j : S131072.Idx) :
    (Host.argReduce reducer_argmin_f32_i32 x (iotaInDim S131072x1024 32 1) (constant S_ FTy.f32 2139095040#32) (constantI S_ 32 0#32) h hu j).2
      = BitVec.ofNat 32 (firstMin (D (j 0))).val := by
  obtain ⟨n, rfl⟩ : ∃ n : Fin 131072, j = ix1 n := ⟨j 0, funext fun a => by match a with | ⟨0, _⟩ => rfl⟩
  rw [Ideal.argReduce_eq_reduce2, Host.reduce2_eq_foldl_fiber, fiber_eq, List.foldl_map]
  have e : (fun (r : Ideal .f32 × BitVec 32) (i : Fin 1024) => reducer_argmin_f32_i32 (F := Ideal) r (x (ix2 n i), iotaInDim S131072x1024 32 1 (ix2 n i)))
      = fun r i => reducer_argmin_f32_i32 (F := Ideal) r (D n i, BitVec.ofNat 32 i.val) := by
    funext r i
    rw [hx]
    rfl
  rw [e]
  have t : (constant S_ FTy.f32 2139095040#32 : FVec Ideal S_ .f32) (Shape.Idx.first hu) = (⊤ : EReal) := top_word
  rw [t]
  exact congrArg Prod.snd (foldl_first 1024 (D n) (hD n) (fun i => BitVec.ofNat 32 i.val) _ (reducer_argmin_f32_i32 (F := Ideal))
    reducer_lt reducer_gt (fun i j hij he => by rw [← he]; exact reducer_eq _ i j hij))

/-! ## The row looked up -/

theorem not_neg (k : Fin 1024) : IntOp.cmpi .slt (BitVec.ofNat 32 k.val) 0#32 = 0#1 := by
  revert k; decide +kernel
theorem at_least (k : Fin 1024) : IntOp.cmpi .sge (BitVec.ofNat 32 k.val) 0#32 = 1#1 := by
  revert k; decide +kernel
theorem at_most (k : Fin 1024) : IntOp.cmpi .sle (BitVec.ofNat 32 k.val) 1023#32 = 1#1 := by
  revert k; decide +kernel
theorem sel0 {α : Type} (a b : α) : Scalar.select 0#1 a b = b := by simp [Scalar.select]
theorem sel1 {α : Type} (a b : α) : Scalar.select 1#1 a b = a := by simp [Scalar.select]
theorem fold_one : Finset.fold IntOp.andi 1#1 (fun _ : Fin 1 => IntOp.andi 1#1 1#1) Finset.univ = 1#1 := by decide

theorem gather_at (k : Fin 131072 → Fin 1024) (cb : FVec Ideal S1024x64 .f32) (h1 : S131072.BroadcastsInDim S131072x1 ![0])
    (h2 : S_.BroadcastsInDim S131072 ![]) (h3 : S_.BroadcastsInDim S131072 ![]) (n : Fin 131072) (c : Fin 64) :
    Host.gather gather_S1024x64_S131072x1_S131072x64_1_0_n_n_0_1_164 cb
        (broadcastInDim S131072x1 ![0] h1
          (select (cmpi .slt (fun j : S131072.Idx => BitVec.ofNat 32 (k (j 0)).val) (broadcastInDim S131072 ![] h2 (constantI S_ 32 0#32)))
            (addi (fun j : S131072.Idx => BitVec.ofNat 32 (k (j 0)).val) (broadcastInDim S131072 ![] h3 (constantI S_ 32 1024#32)))
            fun j : S131072.Idx => BitVec.ofNat 32 (k (j 0)).val)) (ix2 n c)
      = cb (ix2 (k n) c) := by
  refine Routing.gather_row _ rfl rfl rfl rfl rfl cb _ n c (k n) ?_ ?_
  · pointwise
    simp only [not_neg, sel0]
  · norm_num

theorem stC2i (D : Fin 131072 → Fin 1024 → EReal)
    (hx : ∀ n j, (V (Proc.devRef .tc main_v227) : FVec Ideal S131072x1024 .f32) (ix2 n j) = D n j) (hD : ∀ n j, IsR (D n j)) (n : Fin 131072) :
    (after opsC2 V (Proc.devRef .tc main_v228) : IVec S131072 32) (ix1 n) = BitVec.ofNat 32 (firstMin (D n)).val := by
  simp only [opsC2, H3r, H4, List.cons_append, List.nil_append]
  after_reads_simp
  try simp -implicitDefEqProofs only [StableHlo.TRef.toBuf, StableHlo.TRef.ofBuf, cast_cast, cast_eq]
  clean_types
  pointwise
  exact argmin_at _ D hx hD _ _ (ix1 n)

theorem stC2l (D : Fin 131072 → Fin 1024 → EReal)
    (hx : ∀ n j, (V (Proc.devRef .tc main_v227) : FVec Ideal S131072x1024 .f32) (ix2 n j) = D n j) (hD : ∀ n j, IsR (D n j))
    (Z : Fin 131072 → Fin 64 → EReal) (hZ : ∀ n c, (V (Proc.devRef .tc main_v213) : FVec Ideal S131072x64 .f32) (ix2 n c) = Z n c)
    (C : Fin 1024 → Fin 64 → EReal) (hC : ∀ j c, (V (Proc.devRef .tc main_arg5) : FVec Ideal S1024x64 .f32) (ix2 j c) = C j c) :
    (show Ideal .f32 from (after opsC2 V (Proc.devRef .tc main_v234) : FVec Ideal S_ .f32) ix0)
      = Ideal.div (∑ n : Fin 131072, ∑ c : Fin 64, (Z n c - C (firstMin (D n)) c) * (Z n c - C (firstMin (D n)) c) : EReal)
        (Ideal.ofBits FTy.f32 1258291200#32) := by
  simp only [opsC2, H3r, H4, List.cons_append, List.nil_append]
  after_reads_simp
  try simp -implicitDefEqProofs only [StableHlo.TRef.toBuf, StableHlo.TRef.ofBuf, cast_cast, cast_eq]
  clean_types
  pointwise
  simp only [argmin_at _ D hx hD]
  simp only [gather_at (fun n => firstMin (D n)), not_neg, sel0, at_least, at_most, fold_one, sel1, hZ, hC]

theorem stC2q (D : Fin 131072 → Fin 1024 → EReal)
    (hx : ∀ n j, (V (Proc.devRef .tc main_v227) : FVec Ideal S131072x1024 .f32) (ix2 n j) = D n j) (hD : ∀ n j, IsR (D n j))
    (Z : Fin 131072 → Fin 64 → EReal) (hZ : ∀ n c, (V (Proc.devRef .tc main_v213) : FVec Ideal S131072x64 .f32) (ix2 n c) = Z n c)
    (C : Fin 1024 → Fin 64 → EReal) (hC : ∀ j c, (V (Proc.devRef .tc main_arg5) : FVec Ideal S1024x64 .f32) (ix2 j c) = C j c)
    (b : Fin 8) (c : Fin 64) (y x : Fin 128) :
    (show Ideal .f32 from (after opsC2 V (Proc.devRef .tc main_v238) : FVec Ideal S8x64x128x128 .f32) (ix4 b c y x))
      = (Z ⟨b.val * 16384 + y.val * 128 + x.val, by omega⟩ c
        + (C (firstMin (D ⟨b.val * 16384 + y.val * 128 + x.val, by omega⟩)) c - Z ⟨b.val * 16384 + y.val * 128 + x.val, by omega⟩ c) : EReal) := by
  simp only [opsC2, H3r, H4, List.cons_append, List.nil_append]
  after_reads_simp
  try simp -implicitDefEqProofs only [StableHlo.TRef.toBuf, StableHlo.TRef.ofBuf, cast_cast, cast_eq]
  clean_types
  pointwise
  simp only [argmin_at _ D hx hD]
  simp only [gather_at (fun n => firstMin (D n)), not_neg, sel0, at_least, at_most, fold_one, sel1, hZ, hC]

end Cert.ReferenceIdeal.Value
-- ==== Proof.RefOut.lean ====
module

public import proofs.«01_k».proof.Proof.RefConv
public import proofs.«01_k».proof.Proof.RefVq

/-! The reference's three results as the network's formulas of its arguments. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Net

variable (V : Valuation τ sig (Elt Ideal))

/-- The arguments a launch holds. -/
def args : Args where
  x := fun b i y x => (V (Proc.devRef .tc main_arg0) : FVec Ideal S8x1x512x512 .f32) (ix4 b i y x)
  w1 := fun o i a c => (V (Proc.devRef .tc main_arg1) : FVec Ideal S32x1x4x4 .f32) (ix4 o i a c)
  b1 := fun o => (V (Proc.devRef .tc main_arg2) : FVec Ideal S32 .f32) (ix1 o)
  w2 := fun o i a c => (V (Proc.devRef .tc main_arg3) : FVec Ideal S64x32x4x4 .f32) (ix4 o i a c)
  b2 := fun o => (V (Proc.devRef .tc main_arg4) : FVec Ideal S64 .f32) (ix1 o)
  cb := fun j c => (V (Proc.devRef .tc main_arg5) : FVec Ideal S1024x64 .f32) (ix2 j c)
  u1 := fun i o a c => (V (Proc.devRef .tc main_arg6) : FVec Ideal S64x32x4x4 .f32) (ix4 i o a c)
  c1 := fun o => (V (Proc.devRef .tc main_arg7) : FVec Ideal S32 .f32) (ix1 o)
  u2 := fun i o a c => (V (Proc.devRef .tc main_arg8) : FVec Ideal S32x1x4x4 .f32) (ix4 i o a c)
  c2 := fun o => (V (Proc.devRef .tc main_arg9) : FVec Ideal S1 .f32) (ix1 o)

theorem at_hidden (b : Fin 8) (o : Fin 32) (y x : Fin 256) :
    (valA V (Proc.devRef .tc main_v105) : FVec Ideal S8x32x256x256 .f32) (ix4 b o y x) = hidden (args V) b o y x := by
  refine (stA (valA0 V) (args V).x (fun b i r s => stA0 V b i r s) b o y x).trans ?_
  rw [valA0_arg V (r := main_arg1) (by decide), valA0_arg V (r := main_arg2) (by decide)]
  rfl

theorem at_latent (b : Fin 8) (o : Fin 64) (y x : Fin 128) :
    (valB V (Proc.devRef .tc main_v211) : FVec Ideal S8x64x128x128 .f32) (ix4 b o y x) = latent (args V) b o y x := by
  refine (stB (valB0 V) (hidden (args V)) (fun b i r s => (stB0 (valA V) b i r s).trans ?_) b o y x).trans ?_
  · exact congrArg (fun f => px f r.val s.val) (funext fun y => funext fun x => at_hidden V b i y x)
  · rw [valB0_arg V (r := main_arg3) (by decide), valB0_arg V (r := main_arg4) (by decide)]
    rfl

theorem latent_eq : (fun b c y x => (valB V (Proc.devRef .tc main_v211) : FVec Ideal S8x64x128x128 .f32) (ix4 b c y x)) = latent (args V) :=
  funext fun b => funext fun c => funext fun y => funext fun x => at_latent V b c y x

theorem at_z (n : Fin 131072) (c : Fin 64) :
    (valC1 V (Proc.devRef .tc main_v213) : FVec Ideal S131072x64 .f32) (ix2 n c) = zrow (latent (args V)) n c :=
  (stC1z (valB V) n c).trans (by rw [latent_eq])

theorem at_dist (n : Fin 131072) (j : Fin 1024) :
    (valC1 V (Proc.devRef .tc main_v227) : FVec Ideal S131072x1024 .f32) (ix2 n j) = fullDist (zrow (latent (args V)) n) (args V).cb j := by
  refine (stC1d (valB V) n j).trans ?_
  rw [latent_eq, valB_arg V (r := main_arg5) (by decide)]
  rfl

theorem at_cb (j : Fin 1024) (c : Fin 64) :
    (valC1 V (Proc.devRef .tc main_arg5) : FVec Ideal S1024x64 .f32) (ix2 j c) = (args V).cb j c := by
  rw [valC1_arg V (r := main_arg5) (by decide)]
  rfl

theorem zrow_isR (hR : (args V).Real) (n : Fin 131072) (c : Fin 64) : IsR (zrow (latent (args V)) n c) := latent_isR hR _ _ _ _

theorem dist_isR (hR : (args V).Real) (n : Fin 131072) (j : Fin 1024) : IsR (fullDist (zrow (latent (args V)) n) (args V).cb j) :=
  fullDist_isR _ _ (zrow_isR V hR n) hR.cb j

theorem first_eq (hR : (args V).Real) (n : Fin 131072) : firstMin (fullDist (zrow (latent (args V)) n) (args V).cb) = code (args V) n :=
  nearest_full _ _ (zrow_isR V hR n) hR.cb

theorem at_index (hR : (args V).Real) (n : Fin 131072) :
    (valE V (Proc.devRef .tc main_v228) : IVec S131072 32) (ix1 n) = BitVec.ofNat 32 (code (args V) n).val := by
  rw [valE_keep V (r := main_v228) (by decide), valE0_keep V (r := main_v228) (by decide), valD_keep V (r := main_v228) (by decide),
    valD0_keep V (r := main_v228) (by decide)]
  refine (stC2i (valC1 V) _ (at_dist V) (dist_isR V hR) n).trans ?_
  rw [first_eq V hR]

theorem at_loss (hR : (args V).Real) :
    (show Ideal .f32 from (valE V (Proc.devRef .tc main_v234) : FVec Ideal S_ .f32) ix0) = loss (args V) := by
  rw [valE_keep V (r := main_v234) (by decide), valE0_keep V (r := main_v234) (by decide), valD_keep V (r := main_v234) (by decide),
    valD0_keep V (r := main_v234) (by decide)]
  refine (stC2l (valC1 V) _ (at_dist V) (dist_isR V hR) _ (at_z V) _ (at_cb V)).trans ?_
  simp only [first_eq V hR]
  rfl

theorem at_picked (hR : (args V).Real) (b : Fin 8) (c : Fin 64) (y x : Fin 128) :
    (valC2 V (Proc.devRef .tc main_v238) : FVec Ideal S8x64x128x128 .f32) (ix4 b c y x) = picked (args V) b c y x := by
  refine (stC2q (valC1 V) _ (at_dist V) (dist_isR V hR) _ (at_z V) _ (at_cb V) b c y x).trans ?_
  rw [first_eq V hR]
  exact add_sub_self _ _ (zrow_isR V hR _ _) (hR.cb _ _)

theorem at_middle (hR : (args V).Real) (b : Fin 8) (o : Fin 32) (y x : Fin 256) :
    (valD V (Proc.devRef .tc main_v344) : FVec Ideal S8x32x256x256 .f32) (ix4 b o y x) = middle (args V) b o y x := by
  refine (stD (valD0 V) (picked (args V)) (fun b i r s => (stD0 (valC2 V) b i r s).trans ?_) b o y x).trans ?_
  · exact congrArg (fun f => spread f r.val s.val) (funext fun y => funext fun x => at_picked V hR b i y x)
  · rw [valD0_arg V (r := main_arg6) (by decide), valD0_arg V (r := main_arg7) (by decide)]
    rfl

theorem at_image (hR : (args V).Real) (b : Fin 8) (o : Fin 1) (y x : Fin 512) :
    (valE V (Proc.devRef .tc main_v438) : FVec Ideal S8x1x512x512 .f32) (ix4 b o y x) = image (args V) b o y x := by
  refine (stE (valE0 V) (middle (args V)) (fun b i r s => (stE0 (valD V) b i r s).trans ?_) b o y x).trans ?_
  · exact congrArg (fun f => spread f r.val s.val) (funext fun y => funext fun x => at_middle V hR b i y x)
  · rw [valE0_arg V (r := main_arg8) (by decide), valE0_arg V (r := main_arg9) (by decide)]
    rfl

end Cert.ReferenceIdeal.Value
-- ==== Proof.Agree.lean ====
module

public import proofs.«01_k».proof.Defs
public import proofs.«01_k».proof.Proof.KRun
public import proofs.«01_k».proof.Proof.KOutDec
public import proofs.«01_k».proof.Proof.RefRun
public import proofs.«01_k».proof.Proof.RefOut
public import proofs.«01_k».proof.Proof.PreFinite

/-! The kernel and the reference leave the same three results: from argument arrays that agree, both leave the
    network's formulas of them. -/

@[expose] public section

set_option maxRecDepth 16384

noncomputable section

open Idealize.ShloMosaic Idealize.ShloMosaic.TcCoe Idealize.SL.Sem

namespace Cert.Agree

open Cert.Net

theorem args_eq {A B : Args} (hx : A.x = B.x) (h1 : A.w1 = B.w1) (h2 : A.b1 = B.b1) (h3 : A.w2 = B.w2) (h4 : A.b2 = B.b2)
    (h5 : A.cb = B.cb) (h6 : A.u1 = B.u1) (h7 : A.c1 = B.c1) (h8 : A.u2 = B.u2) (h9 : A.c2 = B.c2) : A = B := by
  cases A; cases B
  simp only [] at hx h1 h2 h3 h4 h5 h6 h7 h8 h9
  subst hx h1 h2 h3 h4 h5 h6 h7 h8 h9
  rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The kernel's arguments. -/
abbrev kargs : Args := Cert.KernelIdeal.Value.args m c

/-- The reference's arguments. -/
abbrev rargs : Args := Cert.ReferenceIdeal.Value.args (StableHlo.launchContents m' c)

theorem same_x (h : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)) : (rargs m' c).x = (kargs m c).x :=
  funext fun b => funext fun i => funext fun y => funext fun x => congrFun h (ix4 b i y x)

theorem same_w1 (h : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)) : (rargs m' c).w1 = (kargs m c).w1 :=
  funext fun b => funext fun i => funext fun y => funext fun x => congrFun h (ix4 b i y x)

theorem same_b1 (h : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)) : (rargs m' c).b1 = (kargs m c).b1 :=
  funext fun o => congrFun h (ix1 o)

theorem same_w2 (h : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)) : (rargs m' c).w2 = (kargs m c).w2 :=
  funext fun b => funext fun i => funext fun y => funext fun x => congrFun h (ix4 b i y x)

theorem same_b2 (h : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)) : (rargs m' c).b2 = (kargs m c).b2 :=
  funext fun o => congrFun h (ix1 o)

theorem same_cb (h : m' ((c.tc : Thread Cert.ReferenceIdeal.nD Cert.ReferenceIdeal.τ).loc Cert.ReferenceIdeal.main_arg5)
    = m ((c.tc : Thread Cert.KernelIdeal.nD Cert.KernelIdeal.τ).loc Cert.KernelIdeal.main_arg5)) : (rargs m' c).cb = (kargs m c).cb :=
  funext fun j => funext fun k => congrFun h (ix2 j k)

theorem same_u1 (h : m' ((c.tc : Thread Cert.ReferenceIdeal.nD Cert.ReferenceIdeal.τ).loc Cert.ReferenceIdeal.main_arg6)
    = m ((c.tc : Thread Cert.KernelIdeal.nD Cert.KernelIdeal.τ).loc Cert.KernelIdeal.main_arg6)) : (rargs m' c).u1 = (kargs m c).u1 :=
  funext fun b => funext fun i => funext fun y => funext fun x => congrFun h (ix4 b i y x)

theorem same_c1 (h : m' ((c.tc : Thread Cert.ReferenceIdeal.nD Cert.ReferenceIdeal.τ).loc Cert.ReferenceIdeal.main_arg7)
    = m ((c.tc : Thread Cert.KernelIdeal.nD Cert.KernelIdeal.τ).loc Cert.KernelIdeal.main_arg7)) : (rargs m' c).c1 = (kargs m c).c1 :=
  funext fun o => congrFun h (ix1 o)

theorem same_u2 (h : m' ((c.tc : Thread Cert.ReferenceIdeal.nD Cert.ReferenceIdeal.τ).loc Cert.ReferenceIdeal.main_arg8)
    = m ((c.tc : Thread Cert.KernelIdeal.nD Cert.KernelIdeal.τ).loc Cert.KernelIdeal.main_arg8)) : (rargs m' c).u2 = (kargs m c).u2 :=
  funext fun b => funext fun i => funext fun y => funext fun x => congrFun h (ix4 b i y x)

theorem same_c2 (h : m' ((c.tc : Thread Cert.ReferenceIdeal.nD Cert.ReferenceIdeal.τ).loc Cert.ReferenceIdeal.main_arg9)
    = m ((c.tc : Thread Cert.KernelIdeal.nD Cert.KernelIdeal.τ).loc Cert.KernelIdeal.main_arg9)) : (rargs m' c).c2 = (kargs m c).c2 :=
  funext fun o => congrFun h (ix1 o)

/-- Under the precondition the encoder's arrays hold real numbers. -/
theorem real [hP : Cert.Pre_encoder_inputs_finite.Facts] (h : Cert.Pre_KernelIdeal_encoder_inputs_finite m) : (kargs m c).Real := by
  obtain ⟨h0, h1, h2, h3, h4, h5⟩ := Cert.Pre_encoder_inputs_finite.real_of_fn _ _ _ _ _ _ _ _ _ _ ix0 (congrFun (h c) ix0)
  exact ⟨fun b i y x => h0 (ix4 b i y x), fun b i y x => h1 (ix4 b i y x), fun o => h2 (ix1 o), fun b i y x => h3 (ix4 b i y x),
    fun o => h4 (ix1 o), fun j k => h5 (ix2 j k)⟩

theorem four {a b c d : ℕ} (j : (⟨4, ![a, b, c, d]⟩ : Shape).Idx) : j = ix4 (j 0) (j 1) (j 2) (j 3) := by
  funext k
  fin_cases k <;> rfl

theorem one {a : ℕ} (j : (⟨1, ![a]⟩ : Shape).Idx) : j = ix1 (j 0) := by
  funext k
  fin_cases k
  rfl

theorem none (j : Cert.KernelIdeal.S_.Idx) : j = ix0 := funext fun k => k.elim0

variable (hA : rargs m' c = kargs m c) (hR : (kargs m c).Real)

include hA hR

theorem rreal : (rargs m' c).Real := by
  rw [hA]
  exact hR

theorem same_image : (Cert.ReferenceIdeal.Value.valE (StableHlo.launchContents m' c) (Proc.devRef .tc Cert.ReferenceIdeal.main_v438) : FVec Ideal Cert.KernelIdeal.S8x1x512x512 .f32)
    = (Cert.KernelIdeal.Gen.W21 m ρ c (Proc.devRef .tc Cert.KernelIdeal.main_v245) : FVec Ideal Cert.KernelIdeal.S8x1x512x512 .f32) := by
  funext j
  rw [four j]
  refine (Cert.ReferenceIdeal.Value.at_image _ (rreal m m' c hA hR) (j 0) (j 1) (j 2) (j 3)).trans ?_
  refine (congrArg (fun A => image A (j 0) (j 1) (j 2) (j 3)) hA).trans ?_
  exact (Cert.KernelIdeal.Value.at_image m ρ c (j 0) (j 1) (j 2) (j 3)).symm

theorem same_index : (Cert.ReferenceIdeal.Value.valE (StableHlo.launchContents m' c) (Proc.devRef .tc Cert.ReferenceIdeal.main_v228) : IVec Cert.KernelIdeal.S131072 32)
    = (Cert.KernelIdeal.Gen.W21 m ρ c (Proc.devRef .tc Cert.KernelIdeal.main_v118) : IVec Cert.KernelIdeal.S131072 32) := by
  funext j
  rw [one j]
  refine (Cert.ReferenceIdeal.Value.at_index _ (rreal m m' c hA hR) (j 0)).trans ?_
  refine (congrArg (fun A => BitVec.ofNat 32 (code A (j 0)).val) hA).trans ?_
  exact (Cert.KernelIdeal.Value.at_index m ρ c (j 0)).symm

theorem same_loss : (Cert.ReferenceIdeal.Value.valE (StableHlo.launchContents m' c) (Proc.devRef .tc Cert.ReferenceIdeal.main_v234) : FVec Ideal Cert.KernelIdeal.S_ .f32)
    = (Cert.KernelIdeal.Gen.W21 m ρ c (Proc.devRef .tc Cert.KernelIdeal.main_v119) : FVec Ideal Cert.KernelIdeal.S_ .f32) := by
  funext j
  rw [none j]
  refine (Cert.ReferenceIdeal.Value.at_loss _ (rreal m m' c hA hR)).trans ?_
  refine (congrArg loss hA).trans ?_
  exact (Cert.KernelIdeal.Value.at_loss m ρ c hR).symm

omit hA hR

/-- The two runs end with the same results. -/
theorem algebraic : Cert.algebraic_KernelIdeal_ReferenceIdeal_pre_encoder_inputs_finite (hKernelIdeal := Cert.KernelIdeal.Gen.facts)
    (hReferenceIdeal := Cert.ReferenceIdeal.Gen.facts) (hPre_encoder_inputs_finite := Cert.Pre_encoder_inputs_finite.facts) := by
  intro m g m' g' hP h
  have hR : ∀ c, (kargs m c).Real := fun c => real m c (hP := Cert.Pre_encoder_inputs_finite.facts) hP
  have hA : ∀ c, rargs m' c = kargs m c := fun c => by
    obtain ⟨h0, h1, h2, h3, h4, h5, h6, h7, h8, h9⟩ := h c
    exact args_eq (same_x m m' c h0) (same_w1 m m' c h1) (same_b1 m m' c h2) (same_w2 m m' c h3) (same_b2 m m' c h4)
      (same_cb m m' c h5) (same_u1 m m' c h6) (same_c1 m m' c h7) (same_u2 m m' c h8) (same_c2 m m' c h9)
  refine ⟨fun c => Cert.KernelIdeal.Gen.W21 m g c (Proc.devRef .tc Cert.KernelIdeal.main_v245),
    fun c => Cert.KernelIdeal.Gen.W21 m g c (Proc.devRef .tc Cert.KernelIdeal.main_v118),
    fun c => Cert.KernelIdeal.Gen.W21 m g c (Proc.devRef .tc Cert.KernelIdeal.main_v119),
    (θ_run Cert.KernelIdeal.defs _ _).mono (fun _ r => r.1) (Cert.KernelIdeal.Value.run_results m g),
    (θ_run Cert.ReferenceIdeal.defs _ _).mono (fun r q c => ?_) (Cert.ReferenceIdeal.Value.run_results m' g')⟩
  exact ⟨(q.1 c Cert.ReferenceIdeal.main_v438).trans (same_image m g m' c (hA c) (hR c)),
    (q.1 c Cert.ReferenceIdeal.main_v228).trans (same_index m g m' c (hA c) (hR c)),
    (q.1 c Cert.ReferenceIdeal.main_v234).trans (same_loss m g m' c (hA c) (hR c)),
    (q.1 c Cert.ReferenceIdeal.main_arg0).trans (Cert.ReferenceIdeal.Value.valE_arg _ (by decide)),
    (q.1 c Cert.ReferenceIdeal.main_arg1).trans (Cert.ReferenceIdeal.Value.valE_arg _ (by decide)),
    (q.1 c Cert.ReferenceIdeal.main_arg2).trans (Cert.ReferenceIdeal.Value.valE_arg _ (by decide)),
    (q.1 c Cert.ReferenceIdeal.main_arg3).trans (Cert.ReferenceIdeal.Value.valE_arg _ (by decide)),
    (q.1 c Cert.ReferenceIdeal.main_arg4).trans (Cert.ReferenceIdeal.Value.valE_arg _ (by decide)),
    (q.1 c Cert.ReferenceIdeal.main_arg5).trans (Cert.ReferenceIdeal.Value.valE_arg _ (by decide)),
    (q.1 c Cert.ReferenceIdeal.main_arg6).trans (Cert.ReferenceIdeal.Value.valE_arg _ (by decide)),
    (q.1 c Cert.ReferenceIdeal.main_arg7).trans (Cert.ReferenceIdeal.Value.valE_arg _ (by decide)),
    (q.1 c Cert.ReferenceIdeal.main_arg8).trans (Cert.ReferenceIdeal.Value.valE_arg _ (by decide)),
    (q.1 c Cert.ReferenceIdeal.main_arg9).trans (Cert.ReferenceIdeal.Value.valE_arg _ (by decide))⟩

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.PreFinite
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_encoder_inputs_finite.facts,
  fun m ρ _ => Cert.Kernel.Gen.frame m ρ, fun m ρ _ => Cert.KernelIdeal.Gen.frame m ρ,
  fun m ρ _ => Cert.KernelIdeal.Gen.frame m ρ,
  fun m ρ _ => Cert.ReferenceIdeal.Value.frame m ρ, fun m ρ _ => Cert.ReferenceIdeal.Value.frame m ρ,
  trivial, Cert.Agree.algebraic⟩

end Cert.Proof

end
